-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_chain [hPre_finite_chain : Cert.Pre_finite_chain.Facts] (m : (ℓ : Loc Cert.KernelIdeal.nD Cert.KernelIdeal.τ Cert.KernelIdeal.sig) → Buf (Elt Ideal) ℓ) : Prop :=
  ∀ c : Dev Cert.KernelIdeal.nD,
    (Cert.Pre_finite_chain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_chain [hPre_finite_chain : Cert.Pre_finite_chain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_chain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_chain [hKernelIdeal : Cert.KernelIdeal.Facts] [hPre_finite_chain : Cert.Pre_finite_chain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_chain m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_chain [hReferenceIdeal : Cert.ReferenceIdeal.Facts] [hPre_finite_chain : Cert.Pre_finite_chain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_chain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_chain [hKernelIdeal : Cert.KernelIdeal.Facts] [hReferenceIdeal : Cert.ReferenceIdeal.Facts] [hPre_finite_chain : Cert.Pre_finite_chain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_chain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v4_0)) (v2 : (c : Dev Cert.KernelIdeal.nD) → Buf (Elt Ideal) ((c.tc : Thread Cert.KernelIdeal.nD Cert.KernelIdeal.τ).loc Cert.KernelIdeal.main_v4_1)) (v3 : (c : Dev Cert.KernelIdeal.nD) → Buf (Elt Ideal) ((c.tc : Thread Cert.KernelIdeal.nD Cert.KernelIdeal.τ).loc Cert.KernelIdeal.main_v4_2)) (v4 : (c : Dev Cert.KernelIdeal.nD) → Buf (Elt Ideal) ((c.tc : Thread Cert.KernelIdeal.nD Cert.KernelIdeal.τ).loc Cert.KernelIdeal.main_v1_3)) (v5 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_v4_1) = v2 c
          ∧ r.2.mem ((c.tc : Thread Cert.KernelIdeal.nD Cert.KernelIdeal.τ).loc Cert.KernelIdeal.main_v4_2) = v3 c
          ∧ r.2.mem ((c.tc : Thread Cert.KernelIdeal.nD Cert.KernelIdeal.τ).loc Cert.KernelIdeal.main_v1_3) = v4 c
          ∧ r.2.mem ((c.tc : Thread Cert.KernelIdeal.nD Cert.KernelIdeal.τ).loc Cert.KernelIdeal.main_v1_4) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_v25) = v3 c
          ∧ r.2.mem ((c.tc : Thread Cert.ReferenceIdeal.nD Cert.ReferenceIdeal.τ).loc Cert.ReferenceIdeal.main_v7) = v4 c
          ∧ r.2.mem ((c.tc : Thread Cert.ReferenceIdeal.nD Cert.ReferenceIdeal.τ).loc Cert.ReferenceIdeal.main_v9) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_chain : Cert.Pre_finite_chain.Facts),
    quiescent_Kernel (hKernel := hKernel)
    ∧ quiescent_KernelIdeal (hKernelIdeal := hKernelIdeal)
    ∧ quiescent_KernelIdeal_pre_finite_chain (hKernelIdeal := hKernelIdeal) (hPre_finite_chain := hPre_finite_chain)
    ∧ quiescent_ReferenceIdeal (hReferenceIdeal := hReferenceIdeal)
    ∧ quiescent_ReferenceIdeal_pre_finite_chain (hReferenceIdeal := hReferenceIdeal) (hPre_finite_chain := hPre_finite_chain)
    ∧ preserves_Kernel_KernelIdeal
    ∧ algebraic_KernelIdeal_ReferenceIdeal_pre_finite_chain (hKernelIdeal := hKernelIdeal) (hReferenceIdeal := hReferenceIdeal) (hPre_finite_chain := hPre_finite_chain)
-- ==== Pre_finite_chain.lean ====
abbrev S10000x256 : Shape := ⟨2, ![10000, 256]⟩
abbrev S10000x10000 : Shape := ⟨2, ![10000, 10000]⟩
abbrev S256x64 : Shape := ⟨2, ![256, 64]⟩
abbrev S64x256 : Shape := ⟨2, ![64, 256]⟩
abbrev S1x64x64 : Shape := ⟨3, ![1, 64, 64]⟩
abbrev S1 : Shape := ⟨1, ![1]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x64 : S_.BroadcastsInDim S256x64 (![] : Fin 0 → Fin S256x64.rank)
  reducesTo_S256x64_S_d0_1 : S256x64.ReducesTo [0, 1] S_
  bcast_S_S64x256 : S_.BroadcastsInDim S64x256 (![] : Fin 0 → Fin S64x256.rank)
  reducesTo_S64x256_S_d0_1 : S64x256.ReducesTo [0, 1] S_

variable [Facts]

def fn_part1 {F : FTy → Type} [FloatOps F] (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  main_v18

def fn {F : FTy → Type} [FloatOps F] (main_arg0 : FVec F S10000x256 .f32) (main_arg1 : FVec F S10000x256 .f32) (main_arg2 : FVec F S10000x10000 .f32) (main_arg3 : FVec F S10000x10000 .f32) (main_arg4 : FVec F S256x64 .f32) (main_arg5 : FVec F S64x256 .f32) (main_arg6 : FVec F S1x64x64 .f32) (main_arg7 : FVec F S1 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S10000x10000 .f32 := Host.absf main_arg2
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x64 .f32 := Host.absf main_arg4
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S64x256 .f32 := Host.absf main_arg5
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_v13 main_v16
-- ==== Kernel.lean ====
abbrev S10000x256 : Shape := ⟨2, ![10000, 256]⟩
abbrev S10000x10000 : Shape := ⟨2, ![10000, 10000]⟩
abbrev S256x64 : Shape := ⟨2, ![256, 64]⟩
abbrev S64x256 : Shape := ⟨2, ![64, 256]⟩
abbrev S1x64x64 : Shape := ⟨3, ![1, 64, 64]⟩
abbrev S1 : Shape := ⟨1, ![1]⟩
abbrev S10000x128 : Shape := ⟨2, ![10000, 128]⟩
abbrev S1000x256 : Shape := ⟨2, ![1000, 256]⟩
abbrev S1000x128 : Shape := ⟨2, ![1000, 128]⟩
abbrev S1000x64 : Shape := ⟨2, ![1000, 64]⟩
abbrev S10000x64 : Shape := ⟨2, ![10000, 64]⟩
abbrev S200x10000 : Shape := ⟨2, ![200, 10000]⟩
abbrev S200x64 : Shape := ⟨2, ![200, 64]⟩
abbrev S200x256 : Shape := ⟨2, ![200, 256]⟩
abbrev S200x128 : Shape := ⟨2, ![200, 128]⟩
abbrev S64x64 : Shape := ⟨2, ![64, 64]⟩
abbrev S1x1 : Shape := ⟨2, ![1, 1]⟩
abbrev S10000x1 : Shape := ⟨2, ![10000, 1]⟩
abbrev S400x64 : Shape := ⟨2, ![400, 64]⟩
abbrev S400x256 : Shape := ⟨2, ![400, 256]⟩
abbrev S400x1 : Shape := ⟨2, ![400, 1]⟩
abbrev S400 : Shape := ⟨1, ![400]⟩

abbrev nBuf : Space → Nat
  | .hbm => 19
  | .vmem => 41
  | .smem => 0
  | _ => 0

abbrev bufTy : (tb : Table) → Fin (tcTables nBuf tb) → BufTy
  | .hbm, ⟨0, _⟩ => ⟨S10000x256, .f32⟩
  | .hbm, ⟨1, _⟩ => ⟨S10000x256, .f32⟩
  | .hbm, ⟨2, _⟩ => ⟨S10000x10000, .f32⟩
  | .hbm, ⟨3, _⟩ => ⟨S10000x10000, .f32⟩
  | .hbm, ⟨4, _⟩ => ⟨S256x64, .f32⟩
  | .hbm, ⟨5, _⟩ => ⟨S64x256, .f32⟩
  | .hbm, ⟨6, _⟩ => ⟨S1x64x64, .f32⟩
  | .hbm, ⟨7, _⟩ => ⟨S1, .f32⟩
  | .hbm, ⟨8, _⟩ => ⟨S10000x128, .f32⟩
  | .hbm, ⟨9, _⟩ => ⟨S10000x64, .f32⟩
  | .hbm, ⟨10, _⟩ => ⟨S10000x64, .f32⟩
  | .hbm, ⟨11, _⟩ => ⟨S10000x64, .f32⟩
  | .hbm, ⟨12, _⟩ => ⟨S10000x256, .f32⟩
  | .hbm, ⟨13, _⟩ => ⟨S10000x256, .f32⟩
  | .hbm, ⟨14, _⟩ => ⟨S64x64, .f32⟩
  | .hbm, ⟨15, _⟩ => ⟨S1x1, .f32⟩
  | .hbm, ⟨16, _⟩ => ⟨S10000x256, .f32⟩
  | .hbm, ⟨17, _⟩ => ⟨S10000x1, .f32⟩
  | .hbm, ⟨18, _⟩ => ⟨S10000x1, .f32⟩
  | .local _ .vmem, ⟨0, _⟩ => ⟨S1000x256, .f32⟩
  | .local _ .vmem, ⟨1, _⟩ => ⟨S1000x256, .f32⟩
  | .local _ .vmem, ⟨2, _⟩ => ⟨S1000x256, .f32⟩
  | .local _ .vmem, ⟨3, _⟩ => ⟨S1000x256, .f32⟩
  | .local _ .vmem, ⟨4, _⟩ => ⟨S256x64, .f32⟩
  | .local _ .vmem, ⟨5, _⟩ => ⟨S1000x128, .f32⟩
  | .local _ .vmem, ⟨6, _⟩ => ⟨S1000x128, .f32⟩
  | .local _ .vmem, ⟨7, _⟩ => ⟨S200x10000, .f32⟩
  | .local _ .vmem, ⟨8, _⟩ => ⟨S200x10000, .f32⟩
  | .local _ .vmem, ⟨9, _⟩ => ⟨S200x10000, .f32⟩
  | .local _ .vmem, ⟨10, _⟩ => ⟨S200x10000, .f32⟩
  | .local _ .vmem, ⟨11, _⟩ => ⟨S10000x128, .f32⟩
  | .local _ .vmem, ⟨12, _⟩ => ⟨S64x256, .f32⟩
  | .local _ .vmem, ⟨13, _⟩ => ⟨S200x64, .f32⟩
  | .local _ .vmem, ⟨14, _⟩ => ⟨S200x64, .f32⟩
  | .local _ .vmem, ⟨15, _⟩ => ⟨S200x64, .f32⟩
  | .local _ .vmem, ⟨16, _⟩ => ⟨S200x64, .f32⟩
  | .local _ .vmem, ⟨17, _⟩ => ⟨S200x64, .f32⟩
  | .local _ .vmem, ⟨18, _⟩ => ⟨S200x64, .f32⟩
  | .local _ .vmem, ⟨19, _⟩ => ⟨S200x256, .f32⟩
  | .local _ .vmem, ⟨20, _⟩ => ⟨S200x256, .f32⟩
  | .local _ .vmem, ⟨21, _⟩ => ⟨S200x256, .f32⟩
  | .local _ .vmem, ⟨22, _⟩ => ⟨S200x256, .f32⟩
  | .local _ .vmem, ⟨23, _⟩ => ⟨S200x10000, .f32⟩
  | .local _ .vmem, ⟨24, _⟩ => ⟨S200x10000, .f32⟩
  | .local _ .vmem, ⟨25, _⟩ => ⟨S200x10000, .f32⟩
  | .local _ .vmem, ⟨26, _⟩ => ⟨S200x10000, .f32⟩
  | .local _ .vmem, ⟨27, _⟩ => ⟨S10000x64, .f32⟩
  | .local _ .vmem, ⟨28, _⟩ => ⟨S400x64, .f32⟩
  | .local _ .vmem, ⟨29, _⟩ => ⟨S400x64, .f32⟩
  | .local _ .vmem, ⟨30, _⟩ => ⟨S400x64, .f32⟩
  | .local _ .vmem, ⟨31, _⟩ => ⟨S400x64, .f32⟩
  | .local _ .vmem, ⟨32, _⟩ => ⟨S64x256, .f32⟩
  | .local _ .vmem, ⟨33, _⟩ => ⟨S64x64, .f32⟩
  | .local _ .vmem, ⟨34, _⟩ => ⟨S1x1, .f32⟩
  | .local _ .vmem, ⟨35, _⟩ => ⟨S400x256, .f32⟩
  | .local _ .vmem, ⟨36, _⟩ => ⟨S400x256, .f32⟩
  | .local _ .vmem, ⟨37, _⟩ => ⟨S400x1, .f32⟩
  | .local _ .vmem, ⟨38, _⟩ => ⟨S400x1, .f32⟩
  | .local _ .vmem, ⟨39, _⟩ => ⟨S400x1, .f32⟩
  | .local _ .vmem, ⟨40, _⟩ => ⟨S400x1, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc1_stg8_0 : Ref sig .tc := ⟨.vmem, 21, rfl⟩
abbrev cc1_stg8_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg8_0 : Ref sig .tc := ⟨.vmem, 35, rfl⟩
abbrev cc2_stg8_1 : Ref sig .tc := ⟨.vmem, 36, rfl⟩
abbrev cc2_stg9_0 : Ref sig .tc := ⟨.vmem, 37, rfl⟩
abbrev cc2_stg9_1 : Ref sig .tc := ⟨.vmem, 38, rfl⟩
abbrev cc2_stg10_0 : Ref sig .tc := ⟨.vmem, 39, rfl⟩
abbrev cc2_stg10_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20
abbrev cc1_sem8_0 : DmaSem sig := 21
abbrev cc1_sem8_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem3_0 : DmaSem sig := 28
abbrev cc2_sem3_1 : DmaSem sig := 29
abbrev cc2_sem4_0 : DmaSem sig := 30
abbrev cc2_sem4_1 : DmaSem sig := 31
abbrev cc2_sem5_0 : DmaSem sig := 32
abbrev cc2_sem6_0 : DmaSem sig := 33
abbrev cc2_sem7_0 : DmaSem sig := 34
abbrev cc2_sem8_0 : DmaSem sig := 35
abbrev cc2_sem8_1 : DmaSem sig := 36
abbrev cc2_sem9_0 : DmaSem sig := 37
abbrev cc2_sem9_1 : DmaSem sig := 38
abbrev cc2_sem10_0 : DmaSem sig := 39
abbrev cc2_sem10_1 : DmaSem sig := 40

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def k1_off1 (i : grid1.Coords) : Fin 2 → Nat :=
  let arg0 : BitVec 32 := BitVec.ofNat 32 (i 0).val
  let c200_i32 : BitVec 32 := 200#32
  let v12 : BitVec 32 := Scalar.muli arg0 c200_i32
  let v13 : Index := Scalar.indexCast v12
  let c0_12 : Index := 0#32
  ![v13.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10000x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S200x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S200x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S200x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S200x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S200x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![25], ![false]⟩

def k2_off1 (i : grid2.Coords) : Fin 2 → Nat :=
  let arg0 : BitVec 32 := BitVec.ofNat 32 (i 0).val
  let c400_i32 : BitVec 32 := 400#32
  let v10 : BitVec 32 := Scalar.muli arg0 c400_i32
  let v11 : Index := Scalar.indexCast v10
  let c0_11 : Index := 0#32
  ![v11.toNat, 0]
def cc2_transform_0 (i : grid2.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S200x10000 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S10000x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S400x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S64x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S400x256 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S400x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S400x1 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]
-- ==== ReferenceIdeal.lean ====
abbrev S10000x256 : Shape := ⟨2, ![10000, 256]⟩
abbrev S10000x10000 : Shape := ⟨2, ![10000, 10000]⟩
abbrev S256x64 : Shape := ⟨2, ![256, 64]⟩
abbrev S64x256 : Shape := ⟨2, ![64, 256]⟩
abbrev S1x64x64 : Shape := ⟨3, ![1, 64, 64]⟩
abbrev S1 : Shape := ⟨1, ![1]⟩
abbrev S10000x64 : Shape := ⟨2, ![10000, 64]⟩
abbrev S_ : Shape := ⟨0, ![]⟩
abbrev S1x64x10000 : Shape := ⟨3, ![1, 64, 10000]⟩
abbrev S10000x1 : Shape := ⟨2, ![10000, 1]⟩
abbrev S1x1 : Shape := ⟨2, ![1, 1]⟩

abbrev nBuf : Space → Nat
  | .hbm => 67
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x256, .f32⟩
  | .hbm, ⟨2, _⟩ => ⟨S10000x10000, .f32⟩
  | .hbm, ⟨3, _⟩ => ⟨S10000x10000, .f32⟩
  | .hbm, ⟨4, _⟩ => ⟨S256x64, .f32⟩
  | .hbm, ⟨5, _⟩ => ⟨S64x256, .f32⟩
  | .hbm, ⟨6, _⟩ => ⟨S1x64x64, .f32⟩
  | .hbm, ⟨7, _⟩ => ⟨S1, .f32⟩
  | .hbm, ⟨8, _⟩ => ⟨S10000x64, .f32⟩
  | .hbm, ⟨9, _⟩ => ⟨S10000x256, .f32⟩
  | .hbm, ⟨10, _⟩ => ⟨S10000x64, .f32⟩
  | .hbm, ⟨11, _⟩ => ⟨S10000x256, .f32⟩
  | .hbm, ⟨12, _⟩ => ⟨S10000x256, .f32⟩
  | .hbm, ⟨13, _⟩ => ⟨S_, .f32⟩
  | .hbm, ⟨14, _⟩ => ⟨S10000x64, .f32⟩
  | .hbm, ⟨15, _⟩ => ⟨S10000x64, .f32⟩
  | .hbm, ⟨16, _⟩ => ⟨S10000x256, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S10000x256, .f32⟩
  | .hbm, ⟨21, _⟩ => ⟨S10000x256, .f32⟩
  | .hbm, ⟨22, _⟩ => ⟨S_, .f32⟩
  | .hbm, ⟨23, _⟩ => ⟨S10000x256, .f32⟩
  | .hbm, ⟨24, _⟩ => ⟨S10000x256, .f32⟩
  | .hbm, ⟨25, _⟩ => ⟨S_, .f32⟩
  | .hbm, ⟨26, _⟩ => ⟨S10000x256, .f32⟩
  | .hbm, ⟨27, _⟩ => ⟨S10000x256, .f32⟩
  | .hbm, ⟨28, _⟩ => ⟨S10000x256, .f32⟩
  | .hbm, ⟨29, _⟩ => ⟨S10000x256, .f32⟩
  | .hbm, ⟨30, _⟩ => ⟨S10000x256, .i1⟩
  | .hbm, ⟨31, _⟩ => ⟨S10000x256, .f32⟩
  | .hbm, ⟨32, _⟩ => ⟨S10000x256, .f32⟩
  | .hbm, ⟨33, _⟩ => ⟨S10000x256, .f32⟩
  | .hbm, ⟨34, _⟩ => ⟨S10000x256, .f32⟩
  | .hbm, ⟨35, _⟩ => ⟨S10000x256, .f32⟩
  | .hbm, ⟨36, _⟩ => ⟨S10000x256, .f32⟩
  | .hbm, ⟨37, _⟩ => ⟨S10000x256, .f32⟩
  | .hbm, ⟨38, _⟩ => ⟨S10000x256, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S10000x256, .f32⟩
  | .hbm, ⟨43, _⟩ => ⟨S10000x256, .f32⟩
  | .hbm, ⟨44, _⟩ => ⟨S_, .f32⟩
  | .hbm, ⟨45, _⟩ => ⟨S10000x256, .f32⟩
  | .hbm, ⟨46, _⟩ => ⟨S10000x256, .f32⟩
  | .hbm, ⟨47, _⟩ => ⟨S10000x64, .f32⟩
  | .hbm, ⟨48, _⟩ => ⟨S10000x64, .f32⟩
  | .hbm, ⟨49, _⟩ => ⟨S_, .f32⟩
  | .hbm, ⟨50, _⟩ => ⟨S10000x64, .f32⟩
  | .hbm, ⟨51, _⟩ => ⟨S10000x64, .f32⟩
  | .hbm, ⟨52, _⟩ => ⟨S10000x64, .f32⟩
  | .hbm, ⟨53, _⟩ => ⟨S10000x64, .f32⟩
  | .hbm, ⟨54, _⟩ => ⟨S_, .f32⟩
  | .hbm, ⟨55, _⟩ => ⟨S10000x64, .f32⟩
  | .hbm, ⟨56, _⟩ => ⟨S10000x64, .f32⟩
  | .hbm, ⟨57, _⟩ => ⟨S1x64x10000, .f32⟩
  | .hbm, ⟨58, _⟩ => ⟨S10000x1, .f32⟩
  | .hbm, ⟨59, _⟩ => ⟨S1x1, .f32⟩
  | .hbm, ⟨60, _⟩ => ⟨S10000x1, .f32⟩
  | .hbm, ⟨61, _⟩ => ⟨S10000x1, .f32⟩
  | .hbm, ⟨62, _⟩ => ⟨S1x64x10000, .f32⟩
  | .hbm, ⟨63, _⟩ => ⟨S10000x1, .f32⟩
  | .hbm, ⟨64, _⟩ => ⟨S1x1, .f32⟩
  | .hbm, ⟨65, _⟩ => ⟨S10000x1, .f32⟩
  | .hbm, ⟨66, _⟩ => ⟨S10000x1, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_cst_0 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v7 : Ref sig .tc := ⟨.hbm, 24, rfl⟩
abbrev main_call2_cst : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_call2_v5 : Ref sig .tc := ⟨.hbm, 31, rfl⟩
abbrev main_call2_v6 : Ref sig .tc := ⟨.hbm, 32, rfl⟩
abbrev main_call2_v7 : Ref sig .tc := ⟨.hbm, 33, rfl⟩
abbrev main_call2_v8 : Ref sig .tc := ⟨.hbm, 34, rfl⟩
abbrev main_call2_v9 : Ref sig .tc := ⟨.hbm, 35, rfl⟩
abbrev main_call2_v10 : Ref sig .tc := ⟨.hbm, 36, rfl⟩
abbrev main_call2_v11 : Ref sig .tc := ⟨.hbm, 37, rfl⟩
abbrev main_v8 : Ref sig .tc := ⟨.hbm, 38, rfl⟩
abbrev main_cst_1 : Ref sig .tc := ⟨.hbm, 39, rfl⟩
abbrev main_cst_2 : Ref sig .tc := ⟨.hbm, 40, rfl⟩
abbrev main_call3_v0 : Ref sig .tc := ⟨.hbm, 41, rfl⟩
abbrev main_call3_v1 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_call4_cst : Ref sig .tc := ⟨.hbm, 49, rfl⟩
abbrev main_call4_v0 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_call5_cst : Ref sig .tc := ⟨.hbm, 54, rfl⟩
abbrev main_call5_v0 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_v18 : Ref sig .tc := ⟨.hbm, 59, rfl⟩
abbrev main_v19 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩

abbrev nD : Nat := 1
abbrev τ : Topo := Topo.v7x

variable {F : FTy → Type} [FloatOps F]
-- ==== Proof.Spec.lean ====
/-
  The arrays the kernel and the reference are both compared with, as functions of an index over the extended reals, and
  the readings of a matrix product, a side-by-side pair and a block of rows that every region's proof uses.
-/
module

public import Idealize.ShloMosaic.Lib.MatmulPlain
public import Idealize.ShloMosaic.Lib.Pipeline.Value
public import Idealize.ShloMosaic.Lib.Pipeline.RowLoads
public import Idealize.ShloMosaic.Lib.IdealHost

@[expose] public section

noncomputable section

namespace Cert.Spec

open Idealize.ShloMosaic Idealize.ShloMosaic.ValueIdx Idealize.ShloMosaic.RowLoads

/-- An `a × b` array of extended reals. -/
abbrev Mat (a b : ℕ) : Type := (⟨2, ![a, b]⟩ : Shape).Idx → EReal

/-- The matrix product. -/
def mul {a b c : ℕ} (A : Mat a b) (B : Mat b c) : Mat a c :=
  fun y => ∑ k : Fin b, A (ix2 (y 0 : Fin a) k) * B (ix2 k (y 1 : Fin c))

/-- Two `a × 64` arrays side by side. -/
def beside {a : ℕ} (A B : Mat a 64) : Mat a 128 := fun y =>
  if h : (y 1).val < 64 then A (ix2 (y 0 : Fin a) ⟨(y 1).val, h⟩)
  else B (ix2 (y 0 : Fin a) ⟨(y 1).val - 64, by have : (y 1).val < 128 := (y 1).isLt; omega⟩)

/-- The first 64 columns of an `a × 128` array. -/
def fstHalf {a : ℕ} (A : Mat a 128) : Mat a 64 := fun y =>
  A (ix2 (y 0 : Fin a) ⟨(y 1).val, by have : (y 1).val < 64 := (y 1).isLt; omega⟩)

/-- The last 64 columns of an `a × 128` array. -/
def sndHalf {a : ℕ} (A : Mat a 128) : Mat a 64 := fun y =>
  A (ix2 (y 0 : Fin a) ⟨64 + (y 1).val, by have : (y 1).val < 64 := (y 1).isLt; omega⟩)

/-- The first half of a pair is its first array. -/
theorem fstHalf_beside {a : ℕ} (A B : Mat a 64) : fstHalf (beside A B) = A := by
  funext y
  have h : (y 1).val < 64 := (y 1).isLt
  unfold fstHalf beside
  exact (dif_pos h).trans (congrArg A (eq_ix2 y).symm)

/-- The second half of a pair is its second array. -/
theorem sndHalf_beside {a : ℕ} (A B : Mat a 64) : sndHalf (beside A B) = B := by
  funext y
  unfold sndHalf beside
  refine (dif_neg (show ¬ (64 + (y 1).val < 64) by omega)).trans (congrArg B ?_)
  refine (Shape.idx_ext₂ ?_ ?_)
  · rfl
  · show 64 + (y 1).val - 64 = (y 1).val; omega

/-- Columns of a product: the first half of `A · B` is `A` times the first half of `B`. -/
theorem fstHalf_mul {a b : ℕ} (A : Mat a b) (B : Mat b 128) : fstHalf (mul A B) = mul A (fstHalf B) := rfl

/-- Columns of a product: the second half of `A · B` is `A` times the second half of `B`. -/
theorem sndHalf_mul {a b : ℕ} (A : Mat a b) (B : Mat b 128) : sndHalf (mul A B) = mul A (sndHalf B) := rfl

/-- Rows of a product: the product of a block of rows is the block of rows of the product. -/
theorem mul_rowsFrom {m b c : ℕ} (k off : ℕ) (h : off + k ≤ m) (A : Mat m b) (B : Mat b c) :
    mul (rowsFrom k A off h) B = rowsFrom k (mul A B) off h := rfl

/-- The entrywise maximum with zero. -/
def relu {a b : ℕ} (A : Mat a b) : Mat a b := fun y => max (A y) 0

/-- A score per row: the sum along a row of `(relu C · D) * relu Z`, plus a bias. -/
def score {a : ℕ} (C Z : Mat a 64) (D : Mat 64 64) (b : EReal) : Mat a 1 := fun y =>
  (∑ j : Fin 64, mul (relu C) D (ix2 (y 0 : Fin a) j) * relu Z (ix2 (y 0 : Fin a) j)) + b

/-- The mean head of one value: its exponential, clipped to the two bounds (1e-5 and 1e6 as f32 words). -/
def meanOf (p : EReal) : EReal :=
  min (Ideal.ofBits .f32 0x49742400#32) (max (Ideal.ofBits .f32 0x3727C5AC#32) (Ideal.exp p))

/-- The dispersion head of one value: `log (1 + eᵖ)` in the form `max p 0 + log1p (exp (-|p|))`, clipped to the two bounds
    (1e-4 and 1e4 as f32 words). -/
def dispOf (p : EReal) : EReal :=
  min (Ideal.ofBits .f32 0x461C4000#32)
    (max (Ideal.ofBits .f32 0x38D1B717#32) (max p 0 + Ideal.log1p (Ideal.exp (-(max p (-p))))))

/-- A kernel's matrix product over a zero accumulator is the product, operands of any two formats. -/
theorem matmul_plain_eq {M K N : ℕ} {φ₁ φ₂ : FTy} (prec : Option ContractPrecision)
    (d : DotDims ⟨2, ![M, K]⟩ ⟨2, ![K, N]⟩ ⟨2, ![M, N]⟩) (hd : d = DotDims.plain M K N)
    (lhs : FVec Ideal ⟨2, ![M, K]⟩ φ₁) (rhs : FVec Ideal ⟨2, ![K, N]⟩ φ₂) :
    matmul d prec lhs rhs (constant (F := Ideal) ⟨2, ![M, N]⟩ .f32 0x00000000#32) = mul (a := M) (b := K) (c := N) lhs rhs := by
  subst hd
  funext y
  rw [eq_ix2 y]
  refine (Ideal.matmul_plain_apply (φ₁ := φ₁) (φ₂ := φ₂) prec lhs rhs _ (y 0) (y 1)).trans ?_
  show Ideal.ofBits .f32 0x00000000#32 + _ = _
  rw [Ideal.ofBits_zero_f32, zero_add]
  rfl

end Cert.Spec

end
-- ==== Proof.Blocks.lean ====
/-
  Blocks of rows: what a window's block of an array holds, once it is known where the block's indices lie in the array.
-/
module

public import proofs.«01_k».proof.Proof.Spec

@[expose] public section

noncomputable section

namespace Cert.Spec

open Idealize.ShloMosaic Idealize.ShloMosaic.RowLoads
open Idealize.ShloMosaic.Pipeline (Window)

/-- An array read at a place `off` rows below `y` is the block of rows from `off` on, read at `y`. -/
theorem at_rows {m n k off : ℕ} (h : off + k ≤ m) (X : Mat m n) (i : (⟨2, ![m, n]⟩ : Shape).Idx)
    (y : (⟨2, ![k, n]⟩ : Shape).Idx) (h0 : (i 0).val = off + (y 0).val) (h1 : (i 1).val = (y 1).val) :
    X i = rowsFrom k X off h y := congrArg X (Shape.idx_ext₂ h0 h1)

/-- An array read at the place `y` is read at `y`. -/
theorem at_same {m n : ℕ} (X : Mat m n) (i y : (⟨2, ![m, n]⟩ : Shape).Idx) (h0 : (i 0).val = (y 0).val)
    (h1 : (i 1).val = (y 1).val) : X i = X y := congrArg X (Shape.idx_ext₂ h0 h1)

/-- Where a block's element lies along an axis on which the block's number is `n`. -/
theorem emb_val {sig : RefSig} {G : Pipeline.Grid} (w : Window sig G) (t : Fin G.N) (y : (w.xblock (G.coords t)).Idx)
    (a : Fin w.shape.rank) {n : ℕ} (hn : w.index t a = n) (hk : w.kind = .blocked := by rfl) :
    ((w.rect t).emb y a : ℕ) = n * w.size a + y a := by
  rw [Window.rect_emb_val w t y a hk, hn]

/-- … and where that number is zero. -/
theorem emb_val_zero {sig : RefSig} {G : Pipeline.Grid} (w : Window sig G) (t : Fin G.N)
    (y : (w.xblock (G.coords t)).Idx) (a : Fin w.shape.rank) (hn : w.index t a = 0) : ((w.rect t).emb y a : ℕ) = y a :=
  Window.rect_emb_val_of_index_zero w t a hn y

/-- A pair of zero offsets is the constant zero. -/
theorem zero_pair : (![0, 0] : Fin 2 → Nat) = fun _ => 0 := funext fun a => by fin_cases a <;> rfl

end Cert.Spec

end
-- ==== Proof.Region0.lean ====
/-
  The first launch at the ideal instance: its result array ends as `[feat · W1 | feat_a · W1]`.
-/
module

public import proofs.«01_k».proof.Proof.Gen.KernelIdeal
public import proofs.«01_k».proof.Proof.Gen.KernelIdeal.Frame
public import proofs.«01_k».proof.Proof.Blocks
public import Idealize.ShloMosaic.Lib.Pipeline.ValueKit

@[expose] public section

set_option maxRecDepth 16384

noncomputable section

namespace Cert.KernelIdeal.Region0

open Idealize.ShloMosaic Idealize.ShloMosaic.TcCoe Idealize.ShloMosaic.ValueIdx Idealize.ShloMosaic.RowLoads
open Idealize.ShloMosaic.Pipeline (Dat Window)
open Cert.KernelIdeal Cert.KernelIdeal.Gen Cert.Spec

variable (V : (c : Dev nD) → (b : Ref sig .tc) → Buf (Elt Ideal) ((c : Thread nD τ).loc b))

/-- A point of the grid leaves room for its 1000 rows. -/
theorem room (t : Fin cfg0.N) : t.val * 1000 + 1000 ≤ 10000 := by
  have h : t.val < grid0.N := t.isLt
  rw [N_0] at h; omega

/-- The windows' index maps: along the rows the two feature arrays' and the result's block is block `t`, along the
    columns and for the weights it is block 0. -/
theorem idx : ∀ (w : Fin 4) (t : Fin cfg0.N) (a : Fin (cfg0.win w).shape.rank),
    (cfg0.win w).index t a = if a.val = 0 ∧ w ≠ 2 then t.val else 0 := by
  decide +kernel

/-- The block of `feat` at a point is its 1000 rows. -/
theorem iblk_0 (c : Dev nD) (t : Fin cfg0.N) : iblk0 V c 0 t = rowsFrom 1000 (V c main_arg0) (t.val * 1000) (room t) :=
  funext fun y => at_rows (room t) (V c main_arg0) _ y (emb_val (cfg0.win 0) t y 0 (idx 0 t 0)) (emb_val_zero (cfg0.win 0) t y 1 (idx 0 t 1))

/-- The block of `feat_a` at a point is its 1000 rows. -/
theorem iblk_1 (c : Dev nD) (t : Fin cfg0.N) : iblk0 V c 1 t = rowsFrom 1000 (V c main_arg1) (t.val * 1000) (room t) :=
  funext fun y => at_rows (room t) (V c main_arg1) _ y (emb_val (cfg0.win 1) t y 0 (idx 1 t 0)) (emb_val_zero (cfg0.win 1) t y 1 (idx 1 t 1))

/-- The block of `W1` at a point is the whole of it. -/
theorem iblk_2 (c : Dev nD) (t : Fin cfg0.N) : iblk0 V c 2 t = V c main_arg4 :=
  funext fun y => at_same (V c main_arg4) _ y (emb_val_zero (cfg0.win 2) t y 0 (idx 2 t 0)) (emb_val_zero (cfg0.win 2) t y 1 (idx 2 t 1))

/-- What the body leaves in the result's block: the two products side by side. -/
theorem out_eq (x0 x1 : Vec Ideal S1000x256 .f32) (x2 : Vec Ideal S256x64 .f32) :
    out0_3 x0 x1 x2 = beside (mul (a := 1000) (b := 256) (c := 64) x0 x2) (mul (a := 1000) (b := 256) (c := 64) x1 x2) := by
  unfold out0_3
  rw [View.ld_unit_zero (S := S256x64) zero_pair, View.ld_unit_zero (S := S1000x256) zero_pair, View.ld_unit_zero (S := S1000x256) zero_pair]
  have e2 : k0_pay2 x2 x0 = mul (a := 1000) (b := 256) (c := 64) x0 x2 := matmul_plain_eq none _ rfl _ _
  have e3 : k0_pay3 x2 x1 = mul (a := 1000) (b := 256) (c := 64) x1 x2 := matmul_plain_eq none _ rfl _ _
  rw [e2, e3]
  funext y
  refine View.canon_apply_of_pieces _ _ ?_ y (cover0_3 _ _ y)
  intro p hp
  rcases List.mem_cons.mp hp with rfl | hp
  · intro x
    have h1 : (x 1).val < 64 := (x 1).isLt
    refine (congrArg _ (ValueIdx.eq_ix2 x)).trans ?_
    unfold beside
    refine Eq.trans ?_ (dif_neg (show ¬ (64 + 1 * (x 1).val < 64) by omega)).symm
    refine congrArg _ (Shape.idx_ext₂ ?_ ?_)
    · show (x 0).val = 0 + 1 * (x 0).val; omega
    · show (x 1).val = 64 + 1 * (x 1).val - 64; omega
  · rcases List.mem_singleton.mp hp with rfl
    intro x
    have h1 : (x 1).val < 64 := (x 1).isLt
    refine (congrArg _ (ValueIdx.eq_ix2 x)).trans ?_
    unfold beside
    refine Eq.trans ?_ (dif_pos (show 0 + 1 * (x 1).val < 64 by omega)).symm
    refine congrArg _ (Shape.idx_ext₂ ?_ ?_)
    · show (x 0).val = 0 + 1 * (x 0).val; omega
    · show (x 1).val = 0 + 1 * (x 1).val; omega

/-- The launch's result array, as a function of the arrays it reads. -/
def zcat (f fa : Mat 10000 256) (w : Mat 256 64) : Mat 10000 128 := beside (mul f w) (mul fa w)

/-- The result array after the launch: `[feat · W1 | feat_a · W1]`. -/
theorem final (c : Dev nD) : (dat0 V c).arrAt 3 cfg0.N = zcat (V c main_arg0) (V c main_arg1) (V c main_arg4) :=
  (dat0 V c).arrAt_eq_of_covers 3 _ (by decide +kernel) fun t _ y => by
    refine (congrFun (?_ : (dat0 V c).after 3 t
      = rowsFrom 1000 (zcat (V c main_arg0) (V c main_arg1) (V c main_arg4)) (t.val * 1000) (room t)) y).trans
      (at_rows (room t) _ _ y (emb_val (cfg0.win 3) t y 0 (idx 3 t 0)) (emb_val_zero (cfg0.win 3) t y 1 (idx 3 t 1))).symm
    rw [after0_3, iblk_0, iblk_1, iblk_2, out_eq]
    rfl

end Cert.KernelIdeal.Region0

end
-- ==== Proof.Region1.lean ====
/-
  The second launch at the ideal instance: what its five result arrays end as, as functions of the arrays it reads.
  With `Z` the 128-column array of the first launch: the two halves of `adj · Z`, `adj_a` times the second half of `Z`,
  and the two heads of (first half of `Z`) `· W2`.
-/
module

public import proofs.«01_k».proof.Proof.Gen.KernelIdeal
public import proofs.«01_k».proof.Proof.Gen.KernelIdeal.Frame
public import proofs.«01_k».proof.Proof.Blocks
public import Idealize.ShloMosaic.Lib.Pipeline.ValueKit

@[expose] public section

set_option maxRecDepth 16384

noncomputable section

namespace Cert.KernelIdeal.Region1

open Idealize.ShloMosaic Idealize.ShloMosaic.TcCoe Idealize.ShloMosaic.ValueIdx Idealize.ShloMosaic.RowLoads
open Idealize.ShloMosaic.Tactic
open Idealize.ShloMosaic.Pipeline (Dat Window)
open Cert.KernelIdeal Cert.KernelIdeal.Gen Cert.Spec

variable (V : (c : Dev nD) → (b : Ref sig .tc) → Buf (Elt Ideal) ((c : Thread nD τ).loc b))

/-- A point of the grid leaves room for its 200 rows. -/
theorem room (t : Fin cfg1.N) : t.val * 200 + 200 ≤ 10000 := by
  have h : t.val < grid1.N := t.isLt
  rw [N_1] at h; omega

/-- The windows' index maps: along the rows the two adjacency arrays' and the outputs' block is block `t`, along the
    columns and for the other two inputs it is block 0. -/
theorem idx : ∀ (w : Fin 9) (t : Fin cfg1.N) (a : Fin (cfg1.win w).shape.rank),
    (cfg1.win w).index t a = if a.val = 0 ∧ w ≠ 2 ∧ w ≠ 3 then t.val else 0 := by
  decide +kernel

/-- The row at which the body's dynamic load starts. -/
theorem off_eq : ∀ t : Fin cfg1.N, k1_off1 (grid1.coords t) 0 = t.val * 200 ∧ k1_off1 (grid1.coords t) 1 = 0 := by
  decide +kernel

/-- The block of `adj` at a point is its 200 rows. -/
theorem iblk_0 (c : Dev nD) (t : Fin cfg1.N) : iblk1 V c 0 t = rowsFrom 200 (V c main_arg2) (t.val * 200) (room t) :=
  funext fun y => at_rows (room t) (V c main_arg2) _ y (emb_val (cfg1.win 0) t y 0 (idx 0 t 0)) (emb_val_zero (cfg1.win 0) t y 1 (idx 0 t 1))

/-- The block of `adj_a` at a point is its 200 rows. -/
theorem iblk_1 (c : Dev nD) (t : Fin cfg1.N) : iblk1 V c 1 t = rowsFrom 200 (V c main_arg3) (t.val * 200) (room t) :=
  funext fun y => at_rows (room t) (V c main_arg3) _ y (emb_val (cfg1.win 1) t y 0 (idx 1 t 0)) (emb_val_zero (cfg1.win 1) t y 1 (idx 1 t 1))

/-- The block of the first launch's result at a point is the whole of it. -/
theorem iblk_2 (c : Dev nD) (t : Fin cfg1.N) : iblk1 V c 2 t = V c main_v0 :=
  funext fun y => at_same (V c main_v0) _ y (emb_val_zero (cfg1.win 2) t y 0 (idx 2 t 0)) (emb_val_zero (cfg1.win 2) t y 1 (idx 2 t 1))

/-- The block of `W2` at a point is the whole of it. -/
theorem iblk_3 (c : Dev nD) (t : Fin cfg1.N) : iblk1 V c 3 t = V c main_arg5 :=
  funext fun y => at_same (V c main_arg5) _ y (emb_val_zero (cfg1.win 3) t y 0 (idx 3 t 0)) (emb_val_zero (cfg1.win 3) t y 1 (idx 3 t 1))

/-- The dynamic load's contents: 200 rows of the first half of the array. -/
theorem ld_rows (t : Fin cfg1.N) (X : Vec Ideal S10000x128 .f32) :
    View.ld X (Rect.unit (s := S10000x128) (k1_off1 (grid1.coords t)) S200x64.size (k1_off1_inb (grid1.coords t)))
      = rowsFrom 200 (fstHalf (a := 10000) X) (t.val * 200) (room t) := by
  funext y
  refine congrArg X (Shape.idx_ext₂ ?_ ?_)
  · show k1_off1 (grid1.coords t) 0 + 1 * (y 0).val = t.val * 200 + (y 0).val
    rw [(off_eq t).1]; omega
  · show k1_off1 (grid1.coords t) 1 + 1 * (y 1).val = (y 1).val
    rw [(off_eq t).2]; omega

/-! ## What the body stores, as functions of the blocks it loads -/

/-- The body's first product: the block of `adj` times `Z`. -/
theorem pay3_eq (x : Vec Ideal S10000x128 .f32) (a : Vec Ideal S200x10000 .f32) :
    k1_pay3 x a = mul (a := 200) (b := 10000) (c := 128) a x := by
  unfold k1_pay3 k1_pay2
  dsimp only
  rw [shapeCast_self]
  exact matmul_plain_eq none _ rfl _ _

/-- The first store: the first 64 columns of that product. -/
theorem pay4_eq (x : Vec Ideal S10000x128 .f32) (a : Vec Ideal S200x10000 .f32) :
    k1_pay4 x a = fstHalf (mul (a := 200) (b := 10000) (c := 128) a x) := by
  unfold k1_pay4
  rw [pay3_eq]
  funext y
  refine extractStridedSlice_apply _ _ _ y _ (fun b => ?_)
  match b with
  | ⟨0, _⟩ => show (y 0).val = 0 + (y 0).val; omega
  | ⟨1, _⟩ => show (y 1).val = 0 + (y 1).val; omega

/-- The second store: the last 64 columns of that product. -/
theorem pay5_eq (x : Vec Ideal S10000x128 .f32) (a : Vec Ideal S200x10000 .f32) :
    k1_pay5 x a = sndHalf (mul (a := 200) (b := 10000) (c := 128) a x) := by
  unfold k1_pay5
  rw [pay3_eq]
  funext y
  refine extractStridedSlice_apply _ _ _ y _ (fun b => ?_)
  match b with
  | ⟨0, _⟩ => show (y 0).val = 0 + (y 0).val; omega
  | ⟨1, _⟩ => rfl

/-- The third store: the block of `adj_a` times the last 64 columns of `Z`. -/
theorem pay6_eq (x : Vec Ideal S10000x128 .f32) (a : Vec Ideal S200x10000 .f32) :
    k1_pay6 x a = mul (a := 200) (b := 10000) (c := 64) a (sndHalf (a := 10000) x) := by
  unfold k1_pay6 k1_pay2
  dsimp only
  rw [shapeCast_self]
  refine (matmul_plain_eq none _ rfl _ _).trans (congrArg _ ?_)
  funext y
  refine extractStridedSlice_apply _ _ _ y _ (fun b => ?_)
  match b with
  | ⟨0, _⟩ => show (y 0).val = 0 + (y 0).val; omega
  | ⟨1, _⟩ => rfl

/-- The product the two heads are taken of; the casts to bf16 change nothing over the extended reals. -/
theorem pay7_eq (x : Vec Ideal S200x64 .f32) (w : Vec Ideal S64x256 .f32) :
    k1_pay7 x w = mul (a := 200) (b := 64) (c := 256) x w := by
  unfold k1_pay7
  dsimp only
  rw [shapeCast_self]
  exact matmul_plain_eq none _ rfl _ _

/-- The fourth store: the mean head of that product. -/
theorem pay8_eq (x : Vec Ideal S200x64 .f32) (w : Vec Ideal S64x256 .f32) :
    k1_pay8 x w = fun y => meanOf (mul (a := 200) (b := 64) (c := 256) x w y) := by
  unfold k1_pay8
  rw [pay7_eq]
  rfl

/-- The fifth store: the dispersion head of that product. The branch for an undefined value is never taken. -/
theorem pay1_eq (x : Vec Ideal S200x64 .f32) (w : Vec Ideal S64x256 .f32) :
    k1_pay1 (k1_pay7 x w) (Scalar.ofBits .f32 0x00000000#32) (k1_pay9 x w) (k1_pay10 x w) (k1_pay11 x w)
      = fun y => dispOf (mul (a := 200) (b := 64) (c := 256) x w y) := by
  unfold k1_pay1 k1_pay11 k1_pay9 k1_pay10
  rw [pay7_eq]
  funext y
  generalize hp : mul (a := 200) (b := 64) (c := 256) x w = P
  show min (Ideal.ofBits .f32 0x461C4000#32) (max (Ideal.ofBits .f32 0x38D1B717#32)
    (Scalar.select (Ideal.cmp .one (P y - Ideal.ofBits .f32 0x00000000#32) (P y - Ideal.ofBits .f32 0x00000000#32))
      (P y + Ideal.ofBits .f32 0x00000000#32)
      (max (P y) (Ideal.ofBits .f32 0x00000000#32) + Ideal.log1p (Ideal.exp (Ideal.ofBits .f32 0x00000000#32
        - max (P y - Ideal.ofBits .f32 0x00000000#32) (-(P y - Ideal.ofBits .f32 0x00000000#32))))))) = _
  have hc : ∀ q : EReal, Ideal.cmp .one q q = 0#1 := fun q => by simp [Ideal.cmp]
  rw [hc, Ideal.ofBits_zero_f32, sub_zero, zero_sub]
  rfl

/-! ## The result arrays after the launch, as functions of the arrays it reads

Each buffer's contents after the body are its store's payload; the blocks are rows; the rows tile the array. -/

/-- The first half of `adj · Z`. -/
def res4 (c : Dev nD) : Mat 10000 64 := fstHalf (mul (a := 10000) (b := 10000) (c := 128) (V c main_arg2) (V c main_v0))

/-- The second half of `adj · Z`. -/
def res5 (c : Dev nD) : Mat 10000 64 := sndHalf (mul (a := 10000) (b := 10000) (c := 128) (V c main_arg2) (V c main_v0))

/-- `adj_a` times the second half of `Z`. -/
def res6 (c : Dev nD) : Mat 10000 64 := mul (a := 10000) (b := 10000) (c := 64) (V c main_arg3) (sndHalf (a := 10000) (V c main_v0))

/-- The product the two heads are taken of. -/
def prod (c : Dev nD) : Mat 10000 256 := mul (a := 10000) (b := 64) (fstHalf (a := 10000) (V c main_v0)) (V c main_arg5)

/-- The mean head. -/
def res7 (c : Dev nD) : Mat 10000 256 := fun y => meanOf (prod V c y)

/-- The dispersion head. -/
def res8 (c : Dev nD) : Mat 10000 256 := fun y => dispOf (prod V c y)

/-- After the body at a point the first output's buffer holds the point's 200 rows of the first half of `adj · Z`. -/
theorem after_4 (c : Dev nD) (t : Fin cfg1.N) : (outsAt1 V c t).1 = rowsFrom 200 (res4 V c) (t.val * 200) (room t) := by
  unfold outsAt1
  frame_out
  rw [iblk_2, iblk_0, pay4_eq]
  rfl

/-- … the second output's those of the second half of `adj · Z`. -/
theorem after_5 (c : Dev nD) (t : Fin cfg1.N) : (outsAt1 V c t).2.1 = rowsFrom 200 (res5 V c) (t.val * 200) (room t) := by
  unfold outsAt1
  frame_out
  rw [iblk_2, iblk_0, pay5_eq]
  rfl

/-- … the third output's those of `adj_a` times the second half of `Z`. -/
theorem after_6 (c : Dev nD) (t : Fin cfg1.N) : (outsAt1 V c t).2.2.1 = rowsFrom 200 (res6 V c) (t.val * 200) (room t) := by
  unfold outsAt1
  frame_out
  rw [iblk_2, iblk_1, pay6_eq]
  rfl

/-- … the fourth output's those of the mean head. -/
theorem after_7 (c : Dev nD) (t : Fin cfg1.N) : (outsAt1 V c t).2.2.2.1 = rowsFrom 200 (res7 V c) (t.val * 200) (room t) := by
  unfold outsAt1
  frame_out
  rw [ld_rows, iblk_2, iblk_3, pay8_eq]
  rfl

/-- … the fifth output's those of the dispersion head. -/
theorem after_8 (c : Dev nD) (t : Fin cfg1.N) : (outsAt1 V c t).2.2.2.2 = rowsFrom 200 (res8 V c) (t.val * 200) (room t) := by
  unfold outsAt1
  frame_out
  rw [ld_rows, iblk_2, iblk_3, pay1_eq]
  rfl

/-- The first output array after the launch. -/
theorem final_4 (c : Dev nD) : (dat1 V c).arrAt 4 cfg1.N = res4 V c :=
  (dat1 V c).arrAt_eq_of_covers 4 _ (by decide +kernel) fun t _ y =>
    (congrFun ((after1_4 V c t).trans (after_4 V c t)) y).trans
      (at_rows (room t) (res4 V c) _ y (emb_val (cfg1.win 4) t y 0 (idx 4 t 0)) (emb_val_zero (cfg1.win 4) t y 1 (idx 4 t 1))).symm

/-- The second output array after the launch. -/
theorem final_5 (c : Dev nD) : (dat1 V c).arrAt 5 cfg1.N = res5 V c :=
  (dat1 V c).arrAt_eq_of_covers 5 _ (by decide +kernel) fun t _ y =>
    (congrFun ((after1_5 V c t).trans (after_5 V c t)) y).trans
      (at_rows (room t) (res5 V c) _ y (emb_val (cfg1.win 5) t y 0 (idx 5 t 0)) (emb_val_zero (cfg1.win 5) t y 1 (idx 5 t 1))).symm

/-- The third output array after the launch. -/
theorem final_6 (c : Dev nD) : (dat1 V c).arrAt 6 cfg1.N = res6 V c :=
  (dat1 V c).arrAt_eq_of_covers 6 _ (by decide +kernel) fun t _ y =>
    (congrFun ((after1_6 V c t).trans (after_6 V c t)) y).trans
      (at_rows (room t) (res6 V c) _ y (emb_val (cfg1.win 6) t y 0 (idx 6 t 0)) (emb_val_zero (cfg1.win 6) t y 1 (idx 6 t 1))).symm

/-- The fourth output array after the launch. -/
theorem final_7 (c : Dev nD) : (dat1 V c).arrAt 7 cfg1.N = res7 V c :=
  (dat1 V c).arrAt_eq_of_covers 7 _ (by decide +kernel) fun t _ y =>
    (congrFun ((after1_7 V c t).trans (after_7 V c t)) y).trans
      (at_rows (room t) (res7 V c) _ y (emb_val (cfg1.win 7) t y 0 (idx 7 t 0)) (emb_val_zero (cfg1.win 7) t y 1 (idx 7 t 1))).symm

/-- The fifth output array after the launch. -/
theorem final_8 (c : Dev nD) : (dat1 V c).arrAt 8 cfg1.N = res8 V c :=
  (dat1 V c).arrAt_eq_of_covers 8 _ (by decide +kernel) fun t _ y =>
    (congrFun ((after1_8 V c t).trans (after_8 V c t)) y).trans
      (at_rows (room t) (res8 V c) _ y (emb_val (cfg1.win 8) t y 0 (idx 8 t 0)) (emb_val_zero (cfg1.win 8) t y 1 (idx 8 t 1))).symm

end Cert.KernelIdeal.Region1

end
-- ==== Proof.Region2.lean ====
/-
  The third launch at the ideal instance: what its three result arrays end as, as functions of the arrays it reads:
  `(adj · z) · W2` and the two score columns.
-/
module

public import proofs.«01_k».proof.Proof.Gen.KernelIdeal
public import proofs.«01_k».proof.Proof.Gen.KernelIdeal.Frame
public import proofs.«01_k».proof.Proof.Blocks
public import Idealize.ShloMosaic.Lib.Pipeline.ValueKit

@[expose] public section

set_option maxRecDepth 16384

noncomputable section

namespace Cert.KernelIdeal.Region2

open Idealize.ShloMosaic hiding ix1 ix2
open Idealize.ShloMosaic.TcCoe Idealize.ShloMosaic.ValueIdx Idealize.ShloMosaic.RowLoads
open Idealize.ShloMosaic.Tactic
open Idealize.ShloMosaic.Pipeline (Dat Window)
open Cert.KernelIdeal Cert.KernelIdeal.Gen Cert.Spec

variable (V : (c : Dev nD) → (b : Ref sig .tc) → Buf (Elt Ideal) ((c : Thread nD τ).loc b))

/-- A point of the grid leaves room for its 400 rows. -/
theorem room (t : Fin cfg2.N) : t.val * 400 + 400 ≤ 10000 := by
  have h : t.val < grid2.N := t.isLt
  rw [N_2] at h; omega

/-- The first 200 of a point's rows. -/
theorem room₀ (t : Fin cfg2.N) : 2 * t.val * 200 + 200 ≤ 10000 := by have := room t; omega

/-- The last 200 of a point's rows. -/
theorem room₁ (t : Fin cfg2.N) : (2 * t.val + 1) * 200 + 200 ≤ 10000 := by have := room t; omega

/-- The number of a window's block along the rows: the two blocks of `adj` interleave, the two 64-column arrays' and the
    outputs' block is block `t`, and the other inputs' is block 0. -/
def blockRow (w : Fin 11) (t : ℕ) : ℕ :=
  if w = 0 then 2 * t else if w = 1 then 2 * t + 1 else if w = 2 ∨ w = 5 ∨ w = 6 ∨ w = 7 then 0 else t

/-- The windows' index maps: along the rows `blockRow`, along the columns block 0. -/
theorem idx : ∀ (w : Fin 11) (t : Fin cfg2.N) (a : Fin (cfg2.win w).shape.rank),
    (cfg2.win w).index t a = if a.val = 0 then blockRow w t.val else 0 := by
  decide +kernel

/-- The row at which the body's dynamic load starts. -/
theorem off_eq : ∀ t : Fin cfg2.N, k2_off1 (grid2.coords t) 0 = t.val * 400 ∧ k2_off1 (grid2.coords t) 1 = 0 := by
  decide +kernel

/-- The first block of `adj` at a point is 200 rows. -/
theorem iblk_0 (c : Dev nD) (t : Fin cfg2.N) : iblk2 V c 0 t = rowsFrom 200 (V c main_arg2) (2 * t.val * 200) (room₀ t) :=
  funext fun y => at_rows (room₀ t) (V c main_arg2) _ y (emb_val (cfg2.win 0) t y 0 (idx 0 t 0)) (emb_val_zero (cfg2.win 0) t y 1 (idx 0 t 1))

/-- The second block of `adj` at a point is the next 200 rows. -/
theorem iblk_1 (c : Dev nD) (t : Fin cfg2.N) : iblk2 V c 1 t = rowsFrom 200 (V c main_arg2) ((2 * t.val + 1) * 200) (room₁ t) :=
  funext fun y => at_rows (room₁ t) (V c main_arg2) _ y (emb_val (cfg2.win 1) t y 0 (idx 1 t 0)) (emb_val_zero (cfg2.win 1) t y 1 (idx 1 t 1))

/-- The block of `z` at a point is the whole of it. -/
theorem iblk_2 (c : Dev nD) (t : Fin cfg2.N) : iblk2 V c 2 t = V c main_v1_0 :=
  funext fun y => at_same (V c main_v1_0) _ y (emb_val_zero (cfg2.win 2) t y 0 (idx 2 t 0)) (emb_val_zero (cfg2.win 2) t y 1 (idx 2 t 1))

/-- The block of `za` at a point is its 400 rows. -/
theorem iblk_3 (c : Dev nD) (t : Fin cfg2.N) : iblk2 V c 3 t = rowsFrom 400 (V c main_v1_1) (t.val * 400) (room t) :=
  funext fun y => at_rows (room t) (V c main_v1_1) _ y (emb_val (cfg2.win 3) t y 0 (idx 3 t 0)) (emb_val_zero (cfg2.win 3) t y 1 (idx 3 t 1))

/-- The block of `zs` at a point is its 400 rows. -/
theorem iblk_4 (c : Dev nD) (t : Fin cfg2.N) : iblk2 V c 4 t = rowsFrom 400 (V c main_v1_2) (t.val * 400) (room t) :=
  funext fun y => at_rows (room t) (V c main_v1_2) _ y (emb_val (cfg2.win 4) t y 0 (idx 4 t 0)) (emb_val_zero (cfg2.win 4) t y 1 (idx 4 t 1))

/-- The block of `W2` at a point is the whole of it. -/
theorem iblk_5 (c : Dev nD) (t : Fin cfg2.N) : iblk2 V c 5 t = V c main_arg5 :=
  funext fun y => at_same (V c main_arg5) _ y (emb_val_zero (cfg2.win 5) t y 0 (idx 5 t 0)) (emb_val_zero (cfg2.win 5) t y 1 (idx 5 t 1))

/-- The block of the score matrix at a point is the whole of it. -/
theorem iblk_6 (c : Dev nD) (t : Fin cfg2.N) : iblk2 V c 6 t = V c main_v2 :=
  funext fun y => at_same (V c main_v2) _ y (emb_val_zero (cfg2.win 6) t y 0 (idx 6 t 0)) (emb_val_zero (cfg2.win 6) t y 1 (idx 6 t 1))

/-- The block of the bias at a point is the whole of it. -/
theorem iblk_7 (c : Dev nD) (t : Fin cfg2.N) : iblk2 V c 7 t = V c main_v3 :=
  funext fun y => at_same (V c main_v3) _ y (emb_val_zero (cfg2.win 7) t y 0 (idx 7 t 0)) (emb_val_zero (cfg2.win 7) t y 1 (idx 7 t 1))

/-- The dynamic load's contents: 400 rows of the array. -/
theorem ld_rows (t : Fin cfg2.N) (X : Vec Ideal S10000x64 .f32) :
    View.ld X (Rect.unit (s := S10000x64) (k2_off1 (grid2.coords t)) S400x64.size (k2_off1_inb (grid2.coords t)))
      = rowsFrom 400 X (t.val * 400) (room t) := by
  funext y
  refine congrArg X (Shape.idx_ext₂ ?_ ?_)
  · show k2_off1 (grid2.coords t) 0 + 1 * (y 0).val = t.val * 400 + (y 0).val
    rw [(off_eq t).1]; omega
  · show k2_off1 (grid2.coords t) 1 + 1 * (y 1).val = (y 1).val
    rw [(off_eq t).2]; omega

/-! ## What the body stores, as functions of the blocks it loads -/

/-- Two consecutive blocks of 200 rows, one above the other, are a block of 400 rows. -/
theorem stack_rows (t : Fin cfg2.N) (X : Mat 10000 64) :
    concatenate S400x64 0 [⟨S200x64, rowsFrom 200 X (2 * t.val * 200) (room₀ t)⟩,
        ⟨S200x64, rowsFrom 200 X ((2 * t.val + 1) * 200) (room₁ t)⟩] concatenates_S200x64_S200x64_S400x64_d0
      = rowsFrom 400 X (t.val * 400) (room t) := by
  funext y
  have h0 : (y 0).val < 400 := (y 0).isLt
  by_cases h : (y 0).val < 200
  · refine (concatenate_pair_apply_left (t := S400x64) (s₁ := S200x64) (s₂ := S200x64) 0 _ _ _ y rfl
      (ix2 (⟨(y 0).val, h⟩ : Fin 200) (y 1 : Fin 64)) (fun b => ?_)).trans ?_
    · match b with
      | ⟨0, _⟩ => rfl
      | ⟨1, _⟩ => rfl
    · refine congrArg X (Shape.idx_ext₂ ?_ ?_)
      · show 2 * t.val * 200 + (y 0).val = t.val * 400 + (y 0).val; omega
      · rfl
  · refine (concatenate_pair_apply_right (t := S400x64) (s₁ := S200x64) (s₂ := S200x64) 0 _ _ _ y rfl rfl
      (ix2 (⟨(y 0).val - 200, by omega⟩ : Fin 200) (y 1 : Fin 64)) (fun b hb => ?_) ?_).trans ?_
    · match b with
      | ⟨0, _⟩ => exact absurd rfl hb
      | ⟨1, _⟩ => rfl
    · show (y 0).val - 200 + 200 = (y 0).val; omega
    · refine congrArg X (Shape.idx_ext₂ ?_ ?_)
      · show (2 * t.val + 1) * 200 + ((y 0).val - 200) = t.val * 400 + (y 0).val; omega
      · rfl

/-- The block of `(adj · z) · W2`. -/
theorem pay3_eq (t : Fin cfg2.N) (z : Vec Ideal S10000x64 .f32) (A : Mat 10000 10000) (w : Vec Ideal S64x256 .f32) :
    k2_pay3 z (rowsFrom 200 A (2 * t.val * 200) (room₀ t)) (rowsFrom 200 A ((2 * t.val + 1) * 200) (room₁ t)) w
      = rowsFrom 400 (mul (mul (a := 10000) (b := 10000) (c := 64) A z) w) (t.val * 400) (room t) := by
  unfold k2_pay3
  dsimp only
  rw [shapeCast_self]
  have e (k off : ℕ) (h : off + k ≤ 10000) : mul (a := k) (b := 10000) (c := 64) (rowsFrom k A off h) z
      = rowsFrom k (mul (a := 10000) (b := 10000) (c := 64) A z) off h := rfl
  have e0 := (matmul_plain_eq (φ₁ := .f32) (φ₂ := .f32) none dot_S200x10000_S10000x64_S200x64_1_0_0_1_n_n rfl
    (rowsFrom 200 A (2 * t.val * 200) (room₀ t)) z).trans (e _ _ _)
  have e1 := (matmul_plain_eq (φ₁ := .f32) (φ₂ := .f32) none dot_S200x10000_S10000x64_S200x64_1_0_0_1_n_n rfl
    (rowsFrom 200 A ((2 * t.val + 1) * 200) (room₁ t)) z).trans (e _ _ _)
  refine (matmul_plain_eq _ _ rfl _ _).trans ?_
  refine (congrArg (fun x => mul (a := 400) (b := 64) (c := 256) x w) ?_).trans (mul_rowsFrom 400 _ (room t) _ _)
  refine Eq.trans ?_ (stack_rows t _)
  exact congrArg₂ (fun x y => concatenate S400x64 0 [⟨S200x64, x⟩, ⟨S200x64, y⟩] concatenates_S200x64_S200x64_S400x64_d0) e0 e1

/-- The rectified block of the second 64-column array. -/
theorem pay4_eq (x : Vec Ideal S400x64 .f32) : k2_pay4 x = relu (a := 400) (b := 64) x := by
  unfold k2_pay4
  dsimp only
  rw [shapeCast_self]
  funext y
  show max (x y) (Ideal.ofBits .f32 0x00000000#32) = _
  rw [Ideal.ofBits_zero_f32]; rfl

/-- The rectified block of the third 64-column array. -/
theorem pay5_eq (x : Vec Ideal S400x64 .f32) : k2_pay5 x = relu (a := 400) (b := 64) x := pay4_eq x

/-- The row sums as a column, plus the bias. -/
theorem pay1_eq (b : EReal) (v : Vec Ideal S400x64 .f32) :
    k2_pay1 (F := Ideal) b v = fun y => (∑ j : Fin 64, v (ix2 (y 0 : Fin 400) j)) + b := by
  funext y
  unfold k2_pay1
  dsimp only
  show shapeCast S400x1 _ _ y + b = _
  congr 1
  have h1 : (y 1).val < 1 := (y 1).isLt
  refine (shapeCast_apply _ _ y (ix1 (y 0 : Fin 400)) ?_).trans ?_
  · refine (Shape.rowMajor_val_one _).trans (Eq.trans ?_ (Shape.rowMajor_val_two y).symm)
    show (y 0).val = (y 0).val * 1 + (y 1).val
    omega
  · refine (Ideal.multiReduction_add_single _ _ _ _ _ _).trans ?_
    refine Finset.sum_congr rfl fun k _ => congrArg v (Shape.idx_ext₂ ?_ ?_) <;> rfl

/-- The products summed by the first score. -/
theorem pay8_eq (x za : Vec Ideal S400x64 .f32) (d : Vec Ideal S64x64 .f32) :
    k2_pay8 x za d = fun y => mul (relu (a := 400) (b := 64) za) d y * relu (a := 400) (b := 64) x y := by
  unfold k2_pay8 k2_pay6
  dsimp only
  rw [shapeCast_self, shapeCast_self, pay4_eq]
  funext y
  refine congrArg₂ (fun p q : EReal => p * q) (congrFun (matmul_plain_eq _ _ rfl _ _) y) ?_
  show max (x y) (Ideal.ofBits .f32 0x00000000#32) = _
  rw [Ideal.ofBits_zero_f32]; rfl

/-- The second store: a score column of 400 rows. -/
theorem score1_eq (x za : Vec Ideal S400x64 .f32) (d : Vec Ideal S64x64 .f32) (b : Vec Ideal S1x1 .f32) :
    k2_pay1 (k2_pay7 b) (k2_pay8 x za d) = score (a := 400) za x d (b (ix2 0 0)) := by
  refine (pay1_eq _ _).trans ?_
  rw [pay8_eq]
  have hb : k2_pay7 b = b (ix2 0 0) := congrArg b (Shape.idx_ext₂ rfl rfl)
  rw [hb]
  rfl

/-- The third store: the other score column of 400 rows. -/
theorem score2_eq (za zs : Vec Ideal S400x64 .f32) (d : Vec Ideal S64x64 .f32) (b : Vec Ideal S1x1 .f32) :
    k2_pay2 (k2_pay4 za) (k2_pay5 zs) (k2_pay6 d) (k2_pay7 b) = score (a := 400) zs za d (b (ix2 0 0)) := by
  refine Eq.trans ?_ (score1_eq za zs d b)
  refine congrArg (k2_pay1 (k2_pay7 b)) ?_
  rfl

/-! ## The result arrays after the launch, as functions of the arrays it reads

Each buffer's contents after the body are its store's payload; the blocks are rows; the rows tile the array. -/

/-- `(adj · z) · W2`. -/
def res8 (c : Dev nD) : Mat 10000 256 :=
  mul (b := 64) (mul (a := 10000) (b := 10000) (c := 64) (V c main_arg2) (V c main_v1_0)) (V c main_arg5)

/-- The first score column. -/
def res9 (c : Dev nD) : Mat 10000 1 :=
  score (a := 10000) (V c main_v1_1) (V c main_v1_0) (V c main_v2) (V c main_v3 (ix2 0 0))

/-- The second score column. -/
def res10 (c : Dev nD) : Mat 10000 1 :=
  score (a := 10000) (V c main_v1_2) (V c main_v1_1) (V c main_v2) (V c main_v3 (ix2 0 0))

/-- After the body at a point the first output's buffer holds the point's 400 rows of `(adj · z) · W2`. -/
theorem after_8 (c : Dev nD) (t : Fin cfg2.N) : (outsAt2 V c t).1 = rowsFrom 400 (res8 V c) (t.val * 400) (room t) := by
  unfold outsAt2
  frame_out
  rw [iblk_0, iblk_1, iblk_2, iblk_5]
  exact pay3_eq t _ _ _

/-- … the second output's those of the first score column. -/
theorem after_9 (c : Dev nD) (t : Fin cfg2.N) : (outsAt2 V c t).2.1 = rowsFrom 400 (res9 V c) (t.val * 400) (room t) := by
  unfold outsAt2
  frame_out
  rw [ld_rows, iblk_2, iblk_3, iblk_6, iblk_7, score1_eq]
  rfl

/-- … the third output's those of the second score column. -/
theorem after_10 (c : Dev nD) (t : Fin cfg2.N) : (outsAt2 V c t).2.2 = rowsFrom 400 (res10 V c) (t.val * 400) (room t) := by
  unfold outsAt2
  frame_out
  rw [iblk_3, iblk_4, iblk_6, iblk_7, score2_eq]
  rfl

/-- The first output array after the launch. -/
theorem final_8 (c : Dev nD) : (dat2 V c).arrAt 8 cfg2.N = res8 V c :=
  (dat2 V c).arrAt_eq_of_covers 8 _ (by decide +kernel) fun t _ y =>
    (congrFun ((after2_8 V c t).trans (after_8 V c t)) y).trans
      (at_rows (room t) (res8 V c) _ y (emb_val (cfg2.win 8) t y 0 (idx 8 t 0)) (emb_val_zero (cfg2.win 8) t y 1 (idx 8 t 1))).symm

/-- The second output array after the launch. -/
theorem final_9 (c : Dev nD) : (dat2 V c).arrAt 9 cfg2.N = res9 V c :=
  (dat2 V c).arrAt_eq_of_covers 9 _ (by decide +kernel) fun t _ y =>
    (congrFun ((after2_9 V c t).trans (after_9 V c t)) y).trans
      (at_rows (room t) (res9 V c) _ y (emb_val (cfg2.win 9) t y 0 (idx 9 t 0)) (emb_val_zero (cfg2.win 9) t y 1 (idx 9 t 1))).symm

/-- The third output array after the launch. -/
theorem final_10 (c : Dev nD) : (dat2 V c).arrAt 10 cfg2.N = res10 V c :=
  (dat2 V c).arrAt_eq_of_covers 10 _ (by decide +kernel) fun t _ y =>
    (congrFun ((after2_10 V c t).trans (after_10 V c t)) y).trans
      (at_rows (room t) (res10 V c) _ y (emb_val (cfg2.win 10) t y 0 (idx 10 t 0)) (emb_val_zero (cfg2.win 10) t y 1 (idx 10 t 1))).symm

end Cert.KernelIdeal.Region2

end
-- ==== Proof.KernelRun.lean ====
/-
  The ideal kernel's run: what its six results end holding, as functions of its argument arrays alone.
-/
module

public import proofs.«01_k».proof.Proof.Region0
public import proofs.«01_k».proof.Proof.Region1
public import proofs.«01_k».proof.Proof.Region2

@[expose] public section

set_option maxRecDepth 16384

noncomputable section

namespace Cert.KernelIdeal.Results

open Idealize.ShloMosaic hiding ix1 ix2 ix3
open Idealize.ShloMosaic.TcCoe Idealize.ShloMosaic.ValueIdx Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Spec

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- From any launch memory the kernel ends, and every buffer that outlives it holds the last boundary's contents. -/
theorem ends : θ_run defs (onTc (τ := τ) (main (F := Ideal))) ⟨m, fun _ => 0, ρ⟩
    (fun r => ∀ c : Dev nD, ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-! ## The argument arrays and the closed forms of the intermediates -/

variable (c : Dev nD)

/-- `feat`. -/
abbrev feat : Mat 10000 256 := m ((c : Thread nD τ).loc main_arg0)
/-- `feat_a`. -/
abbrev featA : Mat 10000 256 := m ((c : Thread nD τ).loc main_arg1)
/-- `adj`. -/
abbrev adj : Mat 10000 10000 := m ((c : Thread nD τ).loc main_arg2)
/-- `adj_a`. -/
abbrev adjA : Mat 10000 10000 := m ((c : Thread nD τ).loc main_arg3)
/-- `W1`. -/
abbrev w1 : Mat 256 64 := m ((c : Thread nD τ).loc main_arg4)
/-- `W2`. -/
abbrev w2 : Mat 64 256 := m ((c : Thread nD τ).loc main_arg5)
/-- `disc_W`, its unit axis dropped. -/
def disc : Mat 64 64 := fun y =>
  (m ((c : Thread nD τ).loc main_arg6) : S1x64x64.Idx → EReal) (ix3 (0 : Fin 1) (y 0 : Fin 64) (y 1 : Fin 64))
/-- `disc_b`. -/
def bias : EReal := (m ((c : Thread nD τ).loc main_arg7) : S1.Idx → EReal) (ix1 (0 : Fin 1))

/-- `adj · (feat · W1)`. -/
def z : Mat 10000 64 := mul (adj m c) (mul (feat m c) (w1 m c))
/-- `adj · (feat_a · W1)`. -/
def za : Mat 10000 64 := mul (adj m c) (mul (featA m c) (w1 m c))
/-- `adj_a · (feat_a · W1)`. -/
def zs : Mat 10000 64 := mul (adjA m c) (mul (featA m c) (w1 m c))

/-! ## The arrays at the boundaries -/

/-- The second launch finds `feat · W1` and `feat_a · W1` side by side. -/
theorem V1_v0 : V1 m ρ c main_v0 = beside (mul (feat m c) (w1 m c)) (mul (featA m c) (w1 m c)) :=
  (W1_arr m ρ c 3).trans (Region0.final (V0 m ρ) c)

/-- The second launch finds `adj` as it was. -/
theorem V1_arg2 : V1 m ρ c main_arg2 = adj m c := W1_args m ρ c main_arg2 (by decide)
/-- The second launch finds `adj_a` as it was. -/
theorem V1_arg3 : V1 m ρ c main_arg3 = adjA m c := W1_args m ρ c main_arg3 (by decide)
/-- The second launch finds `W2` as it was. -/
theorem V1_arg5 : V1 m ρ c main_arg5 = w2 m c := W1_args m ρ c main_arg5 (by decide)

/-- The second launch leaves `z`. -/
theorem W2_v1_0 : W2 m ρ c (Proc.devRef .tc main_v1_0) = z m c := by
  refine (W2_arr m ρ c 4).trans ((Region1.final_4 (V1 m ρ) c).trans ?_)
  unfold Region1.res4
  rw [V1_v0, V1_arg2, fstHalf_mul, fstHalf_beside]; rfl

/-- The second launch leaves `za`. -/
theorem W2_v1_1 : W2 m ρ c (Proc.devRef .tc main_v1_1) = za m c := by
  refine (W2_arr m ρ c 5).trans ((Region1.final_5 (V1 m ρ) c).trans ?_)
  unfold Region1.res5
  rw [V1_v0, V1_arg2, sndHalf_mul, sndHalf_beside]; rfl

/-- The second launch leaves `zs`. -/
theorem W2_v1_2 : W2 m ρ c (Proc.devRef .tc main_v1_2) = zs m c := by
  refine (W2_arr m ρ c 6).trans ((Region1.final_6 (V1 m ρ) c).trans ?_)
  unfold Region1.res6
  rw [V1_v0, V1_arg3, sndHalf_beside]; rfl

/-- The second launch leaves the mean head of `feat · W1 · W2`. -/
theorem W2_v1_3 : W2 m ρ c (Proc.devRef .tc main_v1_3) = fun y => meanOf (mul (mul (feat m c) (w1 m c)) (w2 m c) y) := by
  refine (W2_arr m ρ c 7).trans ((Region1.final_7 (V1 m ρ) c).trans ?_)
  unfold Region1.res7 Region1.prod
  rw [V1_v0, V1_arg5, fstHalf_beside]

/-- The second launch leaves the dispersion head of `feat · W1 · W2`. -/
theorem W2_v1_4 : W2 m ρ c (Proc.devRef .tc main_v1_4) = fun y => dispOf (mul (mul (feat m c) (w1 m c)) (w2 m c) y) := by
  refine (W2_arr m ρ c 8).trans ((Region1.final_8 (V1 m ρ) c).trans ?_)
  unfold Region1.res8 Region1.prod
  rw [V1_v0, V1_arg5, fstHalf_beside]

/-- The third launch finds `z`. -/
theorem V3_v1_0 : V3 m ρ c main_v1_0 = z m c := (W3_of m ρ c main_v1_0 (by decide)).trans (W2_v1_0 m ρ c)
/-- The third launch finds `za`. -/
theorem V3_v1_1 : V3 m ρ c main_v1_1 = za m c := (W3_of m ρ c main_v1_1 (by decide)).trans (W2_v1_1 m ρ c)
/-- The third launch finds `zs`. -/
theorem V3_v1_2 : V3 m ρ c main_v1_2 = zs m c := (W3_of m ρ c main_v1_2 (by decide)).trans (W2_v1_2 m ρ c)
/-- The third launch finds `adj` as it was. -/
theorem V3_arg2 : V3 m ρ c main_arg2 = adj m c := W3_args m ρ c main_arg2 (by decide)
/-- The third launch finds `W2` as it was. -/
theorem V3_arg5 : V3 m ρ c main_arg5 = w2 m c := W3_args m ρ c main_arg5 (by decide)

/-- The score matrix as the last launch finds it: `disc_W` without its unit axis. -/
theorem V3_v2 : V3 m ρ c main_v2 = disc m c := by
  show StableHlo.after hostOps2 (W2 m ρ c) (Proc.devRef .tc main_v2) = _
  rw [StableHlo.after_cons, StableHlo.after_cons, StableHlo.after_nil]
  rw [StableHlo.reshape_result_ne' _ _ _ _ _ (by decide)]
  refine (StableHlo.reshape_result' _ _ _ _ _).trans ?_
  rw [show W2 m ρ c (Proc.devRef .tc main_arg6) = _ from W2_args m ρ c main_arg6 (by decide)]
  funext y
  refine shapeCast_apply _ _ y (ix3 (0 : Fin 1) (y 0 : Fin 64) (y 1 : Fin 64)) ?_
  refine (Shape.rowMajor_val_three _).trans (Eq.trans ?_ (Shape.rowMajor_val_two y).symm)
  show (0 * 64 + (y 0).val) * 64 + (y 1).val = (y 0).val * 64 + (y 1).val
  omega

/-- The bias as the last launch finds it. -/
theorem V3_v3 : V3 m ρ c main_v3 (ix2 0 0) = bias m c := by
  show StableHlo.after hostOps2 (W2 m ρ c) (Proc.devRef .tc main_v3) (ix2 0 0) = _
  rw [StableHlo.after_cons, StableHlo.after_cons, StableHlo.after_nil]
  refine (congrFun (StableHlo.reshape_result' _ _ _ _ _) _).trans ?_
  rw [StableHlo.reshape_result_ne' _ _ _ _ _ (by decide)]
  rw [show W2 m ρ c (Proc.devRef .tc main_arg7) = _ from W2_args m ρ c main_arg7 (by decide)]
  refine shapeCast_apply _ _ _ (ix1 (0 : Fin 1)) ?_
  exact (Shape.rowMajor_val_one _).trans (Eq.trans (by rfl) (Shape.rowMajor_val_two (ix2 (0 : Fin 1) (0 : Fin 1))).symm)

/-! ## The results -/

/-- The first result ends as `z`. -/
theorem result0 : W4 m ρ c (Proc.devRef .tc main_v1_0) = z m c :=
  (W4_of m ρ c main_v1_0 (by decide +kernel)).trans (V3_v1_0 m ρ c)

/-- The fifth result ends as the mean head of `feat · W1 · W2`. -/
theorem result4 : W4 m ρ c (Proc.devRef .tc main_v1_3) = fun y => meanOf (mul (mul (feat m c) (w1 m c)) (w2 m c) y) :=
  (W4_of m ρ c main_v1_3 (by decide +kernel)).trans ((W3_of m ρ c main_v1_3 (by decide)).trans (W2_v1_3 m ρ c))

/-- The sixth result ends as the dispersion head of `feat · W1 · W2`. -/
theorem result5 : W4 m ρ c (Proc.devRef .tc main_v1_4) = fun y => dispOf (mul (mul (feat m c) (w1 m c)) (w2 m c) y) :=
  (W4_of m ρ c main_v1_4 (by decide +kernel)).trans ((W3_of m ρ c main_v1_4 (by decide)).trans (W2_v1_4 m ρ c))

/-- The second result ends as `(adj · z) · W2`. -/
theorem result1 : W4 m ρ c (Proc.devRef .tc main_v4_0) = mul (mul (adj m c) (z m c)) (w2 m c) := by
  refine (W4_arr m ρ c 8).trans ((Region2.final_8 (V3 m ρ) c).trans ?_)
  unfold Region2.res8
  rw [V3_arg2, V3_v1_0, V3_arg5]

/-- The third result ends as the score of `za` against `z`. -/
theorem result2 : W4 m ρ c (Proc.devRef .tc main_v4_1) = score (za m c) (z m c) (disc m c) (bias m c) := by
  refine (W4_arr m ρ c 9).trans ((Region2.final_9 (V3 m ρ) c).trans ?_)
  unfold Region2.res9
  rw [V3_v1_0, V3_v1_1, V3_v2, V3_v3]

/-- The fourth result ends as the score of `zs` against `za`. -/
theorem result3 : W4 m ρ c (Proc.devRef .tc main_v4_2) = score (zs m c) (za m c) (disc m c) (bias m c) := by
  refine (W4_arr m ρ c 10).trans ((Region2.final_10 (V3 m ρ) c).trans ?_)
  unfold Region2.res10
  rw [V3_v1_1, V3_v1_2, V3_v2, V3_v3]

end Cert.KernelIdeal.Results

end
-- ==== Proof.Reference.lean ====
/-
  The reference's six results as the same functions of the argument arrays that the kernel's are compared with.
-/
module

public import proofs.«01_k».proof.Proof.Gen.ReferenceIdeal
public import proofs.«01_k».proof.Proof.Gen.ReferenceIdeal.Read
public import proofs.«01_k».proof.Proof.Spec

@[expose] public section

set_option maxRecDepth 16384

noncomputable section

namespace Cert.ReferenceIdeal.Results

open Idealize.ShloMosaic Idealize.ShloMosaic.TcCoe Idealize.ShloMosaic.ValueIdx
open Cert.ReferenceIdeal Cert.ReferenceIdeal.Gen Cert.ReferenceIdeal.Read Cert.Spec

variable (x0 x1 : (⟨S10000x256, .f32⟩ : BufTy).Contents (Elt Ideal)) (x2 x3 : (⟨S10000x10000, .f32⟩ : BufTy).Contents (Elt Ideal))
  (x4 : (⟨S256x64, .f32⟩ : BufTy).Contents (Elt Ideal)) (x5 : (⟨S64x256, .f32⟩ : BufTy).Contents (Elt Ideal))
  (x6 : (⟨S1x64x64, .f32⟩ : BufTy).Contents (Elt Ideal)) (x7 : (⟨S1, .f32⟩ : BufTy).Contents (Elt Ideal))

/-- A sum of products whose operands are read along a row and down a column is a matrix product's element. -/
theorem sum_eq_mul {a b c : ℕ} (A : Mat a b) (B : Mat b c) (l : (⟨2, ![a, c]⟩ : Shape).Idx → Fin b → (⟨2, ![a, b]⟩ : Shape).Idx)
    (r : (⟨2, ![a, c]⟩ : Shape).Idx → Fin b → (⟨2, ![b, c]⟩ : Shape).Idx) (i : (⟨2, ![a, c]⟩ : Shape).Idx)
    (hl0 : ∀ k, (l i k 0).val = (i 0).val) (hl1 : ∀ k, (l i k 1).val = k.val)
    (hr0 : ∀ k, (r i k 0).val = k.val) (hr1 : ∀ k, (r i k 1).val = (i 1).val) :
    ∑ k : Fin b, A (l i k) * B (r i k) = mul A B i := by
  refine Finset.sum_congr rfl fun k _ => ?_
  refine congrArg₂ (fun p q : EReal => p * q) (congrArg A (Shape.idx_ext₂ ?_ ?_)) (congrArg B (Shape.idx_ext₂ ?_ ?_))
  exacts [hl0 k, hl1 k, hr0 k, hr1 k]

/-- `feat · W1`. -/
theorem v0_eq : val_main_v0 (F := Ideal) x0 x4 = mul (a := 10000) (b := 256) (c := 64) x0 x4 := by
  funext i
  rw [val_main_v0_apply]
  exact sum_eq_mul (a := 10000) (b := 256) (c := 64) x0 x4 lidx_main_v0 ridx_main_v0 i (fun _ => rfl) (fun _ => rfl) (fun _ => rfl) (fun _ => rfl)

/-- `(feat · W1) · W2`. -/
theorem v1_eq : val_main_v1 (F := Ideal) x0 x4 x5 = mul (a := 10000) (b := 64) (c := 256) (mul (b := 256) x0 x4) x5 := by
  funext i
  rw [val_main_v1_apply, v0_eq]
  exact sum_eq_mul (a := 10000) (b := 64) (c := 256) _ x5 lidx_main_v1 ridx_main_v1 i (fun _ => rfl) (fun _ => rfl) (fun _ => rfl) (fun _ => rfl)

/-- The first result: `adj · (feat · W1)`. -/
theorem v2_eq : val_main_v2 (F := Ideal) x0 x2 x4 = mul (a := 10000) (b := 10000) (c := 64) x2 (mul (b := 256) x0 x4) := by
  funext i
  rw [val_main_v2_apply, v0_eq]
  exact sum_eq_mul (a := 10000) (b := 10000) (c := 64) x2 _ lidx_main_v2 ridx_main_v2 i (fun _ => rfl) (fun _ => rfl) (fun _ => rfl) (fun _ => rfl)

/-- `z · W2`. -/
theorem v3_eq : val_main_v3 (F := Ideal) x0 x2 x4 x5
    = mul (a := 10000) (b := 64) (c := 256) (mul (b := 10000) x2 (mul (b := 256) x0 x4)) x5 := by
  funext i
  rw [val_main_v3_apply, v2_eq]
  exact sum_eq_mul (a := 10000) (b := 64) (c := 256) _ x5 lidx_main_v3 ridx_main_v3 i (fun _ => rfl) (fun _ => rfl) (fun _ => rfl) (fun _ => rfl)

/-- The second result: `adj · (z · W2)`. -/
theorem v4_eq : val_main_v4 (F := Ideal) x0 x2 x4 x5
    = mul (a := 10000) (b := 10000) (c := 256) x2 (mul (b := 64) (mul (b := 10000) x2 (mul (b := 256) x0 x4)) x5) := by
  funext i
  rw [val_main_v4_apply, v3_eq]
  exact sum_eq_mul (a := 10000) (b := 10000) (c := 256) x2 _ lidx_main_v4 ridx_main_v4 i (fun _ => rfl) (fun _ => rfl) (fun _ => rfl) (fun _ => rfl)

/-- `feat_a · W1`. -/
theorem v10_eq : val_main_v10 (F := Ideal) x1 x4 = mul (a := 10000) (b := 256) (c := 64) x1 x4 := v0_eq x1 x4

/-- `za`, `adj · (feat_a · W1)`. -/
theorem v11_eq : val_main_v11 (F := Ideal) x1 x2 x4 = mul (a := 10000) (b := 10000) (c := 64) x2 (mul (b := 256) x1 x4) := v2_eq x1 x2 x4

/-- `zs`, `adj_a · (feat_a · W1)`. -/
theorem v14_eq : val_main_v14 (F := Ideal) x1 x3 x4 = mul (a := 10000) (b := 10000) (c := 64) x3 (mul (b := 256) x1 x4) := v2_eq x1 x3 x4

/-- `z` rectified. -/
theorem v5_eq : val_main_v5 (F := Ideal) x0 x2 x4 = relu (a := 10000) (b := 64) (mul (b := 10000) x2 (mul (b := 256) x0 x4)) := by
  funext i
  rw [val_main_v5_apply, v2_eq, val_main_call0_v0_apply, val_main_call0_cst_apply]
  refine congrArg (max _) ?_
  exact Ideal.ofBits_zero_f32

/-- `za` rectified. -/
theorem v12_eq : val_main_v12 (F := Ideal) x1 x2 x4 = relu (a := 10000) (b := 64) (mul (b := 10000) x2 (mul (b := 256) x1 x4)) := v5_eq x1 x2 x4

/-- `zs` rectified. -/
theorem v15_eq : val_main_v15 (F := Ideal) x1 x3 x4 = relu (a := 10000) (b := 64) (mul (b := 10000) x3 (mul (b := 256) x1 x4)) := v5_eq x1 x3 x4

/-- The fifth result: the mean head of `feat · W1 · W2`. -/
theorem v7_eq : val_main_v7 (F := Ideal) x0 x4 x5
    = fun i => meanOf (mul (a := 10000) (b := 64) (c := 256) (mul (b := 256) x0 x4) x5 i) := by
  funext i
  rw [val_main_v7_apply, val_main_call1_v4_apply, val_main_call1_v3_apply, val_main_cst_0_apply, val_main_call1_v2_apply,
    val_main_call1_v1_apply, val_main_call1_v0_apply, val_main_cst_apply, val_main_v6_apply, v1_eq]
  rfl

/-- The sixth result: the dispersion head of `feat · W1 · W2`. -/
theorem v9_eq : val_main_v9 (F := Ideal) x0 x4 x5
    = fun i => dispOf (mul (a := 10000) (b := 64) (c := 256) (mul (b := 256) x0 x4) x5 i) := by
  funext i
  rw [val_main_v9_apply, val_main_call3_v4_apply, val_main_call3_v3_apply, val_main_cst_2_apply, val_main_call3_v2_apply,
    val_main_call3_v1_apply, val_main_call3_v0_apply, val_main_cst_1_apply, val_main_v8_apply, val_main_call2_v4_apply,
    val_main_call2_v6_apply, val_main_call2_v11_apply, val_main_call2_v1_apply, val_main_call2_v10_apply,
    val_main_call2_v9_apply, val_main_call2_v8_apply, val_main_call2_v7_apply, val_main_call2_v3_apply,
    val_main_call2_v0_apply, val_main_call2_v2_apply, val_main_call2_v5_apply, val_main_call2_cst_apply, v1_eq]
  generalize mul (a := 10000) (b := 64) (c := 256) (mul (b := 256) x0 x4) x5 = P
  show min (Ideal.ofBits .f32 0x461C4000#32) (max (Ideal.ofBits .f32 0x38D1B717#32)
    (Scalar.select (Ideal.cmp .une (P i - Ideal.ofBits .f32 0x00000000#32) (P i - Ideal.ofBits .f32 0x00000000#32))
      (P i + Ideal.ofBits .f32 0x00000000#32)
      (max (P i) (Ideal.ofBits .f32 0x00000000#32) + Ideal.log1p (Ideal.exp
        (-(max (P i - Ideal.ofBits .f32 0x00000000#32) (-(P i - Ideal.ofBits .f32 0x00000000#32)))))))) = _
  have hc : ∀ q : EReal, Ideal.cmp .une q q = 0#1 := fun q => by simp [Ideal.cmp]
  rw [hc, Ideal.ofBits_zero_f32, sub_zero]
  rfl

/-- `disc_W` without its unit axis. -/
def disc : Mat 64 64 := fun y => x6 (ix3 (0 : Fin 1) (y 0 : Fin 64) (y 1 : Fin 64))

/-- A score as the reference sums it: over the columns of `relu Z`, times the sum over the rows of the score matrix. -/
theorem score_eq (C Z : Mat 10000 64) (b : EReal) (i : S10000x1.Idx) :
    (∑ j : Fin 64, relu Z (lidx_main_v17 i j)
      * ∑ k : Fin 64, x6 (lidx_main_v16 (ridx_main_v17 i j) k) * relu C (ridx_main_v16 (ridx_main_v17 i j) k)) + b
      = score C Z (disc x6) b i := by
  have h1 : (i 1).val < 1 := (i 1).isLt
  refine congrArg (fun s : EReal => s + b) (Finset.sum_congr rfl fun j _ => ?_)
  rw [mul_comm]
  refine congrArg₂ (fun p q : EReal => p * q) (Finset.sum_congr rfl fun k _ => ?_) (congrArg (relu Z) (Shape.idx_ext₂ rfl rfl))
  rw [mul_comm]
  refine congrArg₂ (fun p q : EReal => p * q) (congrArg (relu C) (Shape.idx_ext₂ rfl rfl)) (congrArg x6 ?_)
  funext a
  match a with
  | ⟨0, _⟩ => exact Fin.ext (by show (i 1).val = 0; omega)
  | ⟨1, _⟩ => rfl
  | ⟨2, _⟩ => rfl

/-- The third result: the score of `relu za` against `relu z`. -/
theorem v20_eq : val_main_v20 (F := Ideal) x0 x1 x2 x4 x6 x7
    = score (mul (a := 10000) (b := 10000) (c := 64) x2 (mul (b := 256) x1 x4))
        (mul (a := 10000) (b := 10000) (c := 64) x2 (mul (b := 256) x0 x4)) (disc x6) (x7 (ix1 (0 : Fin 1))) := by
  funext i
  rw [val_main_v20_apply, val_main_v17_apply, val_main_v19_apply, val_main_v18_apply, v5_eq]
  simp only [val_main_v16_apply, v12_eq]
  refine Eq.trans ?_ (score_eq x6 _ _ _ i)
  refine congrArg (fun q => _ + q) (congrArg x7 ?_)
  funext a
  match a with
  | ⟨0, _⟩ => rfl

/-- The fourth result: the score of `relu zs` against `relu za`. -/
theorem v25_eq : val_main_v25 (F := Ideal) x1 x2 x3 x4 x6 x7
    = score (mul (a := 10000) (b := 10000) (c := 64) x3 (mul (b := 256) x1 x4))
        (mul (a := 10000) (b := 10000) (c := 64) x2 (mul (b := 256) x1 x4)) (disc x6) (x7 (ix1 (0 : Fin 1))) := by
  funext i
  rw [val_main_v25_apply, val_main_v22_apply, val_main_v24_apply, val_main_v23_apply, v12_eq]
  simp only [val_main_v21_apply, v15_eq]
  refine Eq.trans ?_ (score_eq x6 _ _ _ i)
  refine congrArg (fun q => _ + q) (congrArg x7 ?_)
  funext a
  match a with
  | ⟨0, _⟩ => rfl

end Cert.ReferenceIdeal.Results

end
-- ==== Proof.Algebra.lean ====
/-
  Products of three matrices with finite entries associate. Over the extended reals they need not: `0 · ∞ = 0` and
  `∞ - ∞` break distributivity.
-/
module

public import proofs.«01_k».proof.Proof.Spec

@[expose] public section

noncomputable section

namespace Cert.Spec

open Idealize.ShloMosaic Idealize.ShloMosaic.ValueIdx

/-- Every entry is a real number. -/
def Finite {a b : ℕ} (A : Mat a b) : Prop := ∃ R : (⟨2, ![a, b]⟩ : Shape).Idx → ℝ, A = fun y => (R y : EReal)

/-- Entries that are neither infinity are real numbers. -/
theorem Finite.of_ne {a b : ℕ} (A : Mat a b) (h : ∀ y, A y ≠ ⊤ ∧ A y ≠ ⊥) : Finite A :=
  ⟨fun y => (A y).toReal, funext fun y => (EReal.coe_toReal (h y).1 (h y).2).symm⟩

/-- A sum of real numbers, read in the extended reals. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A product of matrices of real numbers is the matrix of the real sums. -/
theorem mul_coe {a b c : ℕ} (A : (⟨2, ![a, b]⟩ : Shape).Idx → ℝ) (B : (⟨2, ![b, c]⟩ : Shape).Idx → ℝ) :
    mul (fun y => (A y : EReal)) (fun y => (B y : EReal))
      = fun y : (⟨2, ![a, c]⟩ : Shape).Idx =>
        ((∑ k : Fin b, A (ix2 (y 0 : Fin a) k) * B (ix2 k (y 1 : Fin c)) : ℝ) : EReal) := by
  funext y
  unfold mul
  rw [coe_sum]
  exact Finset.sum_congr rfl fun k _ => (EReal.coe_mul _ _).symm

/-- A product of finite matrices is finite. -/
theorem Finite.mul {a b c : ℕ} {A : Mat a b} {B : Mat b c} (hA : Finite A) (hB : Finite B) : Finite (mul A B) := by
  obtain ⟨A, rfl⟩ := hA
  obtain ⟨B, rfl⟩ := hB
  exact ⟨_, mul_coe A B⟩

/-- Finite matrices' products associate. -/
theorem mul_assoc_of_finite {a b c d : ℕ} {A : Mat a b} {B : Mat b c} {C : Mat c d} (hA : Finite A) (hB : Finite B)
    (hC : Finite C) : mul (mul A B) C = mul A (mul B C) := by
  obtain ⟨A, rfl⟩ := hA
  obtain ⟨B, rfl⟩ := hB
  obtain ⟨C, rfl⟩ := hC
  rw [mul_coe, mul_coe, mul_coe, mul_coe]
  funext y
  refine congrArg _ ?_
  simp only [Finset.sum_mul, Finset.mul_sum]
  rw [Finset.sum_comm]
  refine Finset.sum_congr rfl fun k _ => Finset.sum_congr rfl fun l _ => ?_
  exact mul_assoc _ _ _

end Cert.Spec

end
-- ==== Proof.Pre.lean ====
/-
  The precondition `finite_chain` read back: the entries of `feat`, `adj`, `W1` and `W2` are real numbers.
-/
module

public import proofs.«01_k».proof.Pre_finite_chain
public import proofs.«01_k».proof.Proof.Algebra
public import Idealize.ShloMosaic.Lib.ReduceAll

@[expose] public section

noncomputable section

namespace Cert.FiniteChain

open Idealize.ShloMosaic Cert.Spec Cert.Pre_finite_chain

/-- The side conditions the predicate's operations take. -/
theorem facts : Facts where
  bcast_S_S10000x256 := by decide
  reducesTo_S10000x256_S_d0_1 := by decide
  h_S_ := by decide
  bcast_S_S10000x10000 := by decide
  reducesTo_S10000x10000_S_d0_1 := by decide
  bcast_S_S256x64 := by decide
  reducesTo_S256x64_S_d0_1 := by decide
  bcast_S_S64x256 := by decide
  reducesTo_S64x256_S_d0_1 := by decide

/-- A scalar has one index. -/
instance : Subsingleton S_.Idx := ⟨fun a b => funext fun k => k.elim0⟩

/-- An extended real whose absolute value is below infinity is neither infinity. -/
theorem ne_of_abs_lt (x : EReal) (h : Ideal.cmp .olt (max x (-x)) (Ideal.ofBits .f32 0x7F800000#32) = 1#1) : x ≠ ⊤ ∧ x ≠ ⊥ := by
  have ht : Ideal.ofBits .f32 0x7F800000#32 = ⊤ := by simp [Ideal.ofBits, Ideal.ieee]
  rw [ht] at h
  constructor <;> rintro rfl <;> simp [Ideal.cmp] at h

variable [Facts]
open Facts

/-- What the predicate says where it holds. -/
theorem finite (x0 x1 : Mat 10000 256) (x2 x3 : Mat 10000 10000) (x4 : Mat 256 64) (x5 : Mat 64 256)
    (x6 : FVec Ideal S1x64x64 .f32) (x7 : FVec Ideal S1 .f32)
    (h : fn (F := Ideal) x0 x1 x2 x3 x4 x5 x6 x7 = fun _ => 1#1) : Finite x0 ∧ Finite x2 ∧ Finite x4 ∧ Finite x5 := by
  have e := congrFun h (fun k => k.elim0)
  unfold fn fn_part1 at e
  dsimp only at e
  obtain ⟨e, e5⟩ := IntOp.andi_eq_one.1 e
  obtain ⟨e, e4⟩ := IntOp.andi_eq_one.1 e
  obtain ⟨e0, e2⟩ := IntOp.andi_eq_one.1 e
  refine ⟨.of_ne _ fun y => ne_of_abs_lt _ ?_, .of_ne _ fun y => ne_of_abs_lt _ ?_, .of_ne _ fun y => ne_of_abs_lt _ ?_,
    .of_ne _ fun y => ne_of_abs_lt _ ?_⟩
  · exact Host.reduce_andi_all _ _ _ _ _ e0 y
  · exact Host.reduce_andi_all _ _ _ _ _ e2 y
  · exact Host.reduce_andi_all _ _ _ _ _ e4 y
  · exact Host.reduce_andi_all _ _ _ _ _ e5 y

end Cert.FiniteChain

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.Reference
public import proofs.«01_k».proof.Proof.Pre
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Spec

/-- The ideal reference's frame: it runs, its argument arrays and the machine's counters end as they started. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0) :=
  (θ_run Cert.ReferenceIdeal.defs _ _).mono
    (fun r h => ⟨fun c => (h c).2.2.2.2.2.2, Idealize.ShloMosaic.sem_eq_zero_of_no_sems (by decide) r.2⟩)
    (Cert.ReferenceIdeal.Value.run (F := Ideal) m g)

/-- The ideal kernel and the ideal reference, started on the same argument arrays of which `finite_chain` holds, end with
    the same six results. -/
theorem same_results (hPre : Cert.Pre_finite_chain.Facts) :
    Cert.algebraic_KernelIdeal_ReferenceIdeal_pre_finite_chain (hKernelIdeal := Cert.KernelIdeal.Gen.facts)
      (hReferenceIdeal := Cert.ReferenceIdeal.Gen.facts) (hPre_finite_chain := hPre) := by
  intro m g m' g' hpre hargs
  open Cert.KernelIdeal.Results in
  refine ⟨fun c => z m c, fun c => mul (mul (adj m c) (z m c)) (w2 m c), fun c => score (za m c) (z m c) (disc m c) (bias m c),
    fun c => score (zs m c) (za m c) (disc m c) (bias m c),
    fun c y => meanOf (mul (mul (feat m c) (w1 m c)) (w2 m c) y), fun c y => dispOf (mul (mul (feat m c) (w1 m c)) (w2 m c) y),
    ?_, ?_⟩
  · refine (θ_run Cert.KernelIdeal.defs _ _).mono (fun r h c => ?_) (Cert.KernelIdeal.Results.ends m g)
    exact ⟨(h c _ (Cert.KernelIdeal.Gen.mem_uc Cert.KernelIdeal.main_v1_0 (by decide))).trans (Cert.KernelIdeal.Results.result0 m g c),
      (h c _ (Cert.KernelIdeal.Gen.mem_uc Cert.KernelIdeal.main_v4_0 (by decide))).trans (Cert.KernelIdeal.Results.result1 m g c),
      (h c _ (Cert.KernelIdeal.Gen.mem_uc Cert.KernelIdeal.main_v4_1 (by decide))).trans (Cert.KernelIdeal.Results.result2 m g c),
      (h c _ (Cert.KernelIdeal.Gen.mem_uc Cert.KernelIdeal.main_v4_2 (by decide))).trans (Cert.KernelIdeal.Results.result3 m g c),
      (h c _ (Cert.KernelIdeal.Gen.mem_uc Cert.KernelIdeal.main_v1_3 (by decide))).trans (Cert.KernelIdeal.Results.result4 m g c),
      (h c _ (Cert.KernelIdeal.Gen.mem_uc Cert.KernelIdeal.main_v1_4 (by decide))).trans (Cert.KernelIdeal.Results.result5 m g c),
      (h c _ (Cert.KernelIdeal.Gen.mem_uc Cert.KernelIdeal.main_arg0 (by decide))).trans (Cert.KernelIdeal.Gen.W4_main_arg0 m g c),
      (h c _ (Cert.KernelIdeal.Gen.mem_uc Cert.KernelIdeal.main_arg1 (by decide))).trans (Cert.KernelIdeal.Gen.W4_main_arg1 m g c),
      (h c _ (Cert.KernelIdeal.Gen.mem_uc Cert.KernelIdeal.main_arg2 (by decide))).trans (Cert.KernelIdeal.Gen.W4_main_arg2 m g c),
      (h c _ (Cert.KernelIdeal.Gen.mem_uc Cert.KernelIdeal.main_arg3 (by decide))).trans (Cert.KernelIdeal.Gen.W4_main_arg3 m g c),
      (h c _ (Cert.KernelIdeal.Gen.mem_uc Cert.KernelIdeal.main_arg4 (by decide))).trans (Cert.KernelIdeal.Gen.W4_main_arg4 m g c),
      (h c _ (Cert.KernelIdeal.Gen.mem_uc Cert.KernelIdeal.main_arg5 (by decide))).trans (Cert.KernelIdeal.Gen.W4_main_arg5 m g c),
      (h c _ (Cert.KernelIdeal.Gen.mem_uc Cert.KernelIdeal.main_arg6 (by decide))).trans (Cert.KernelIdeal.Gen.W4_main_arg6 m g c),
      (h c _ (Cert.KernelIdeal.Gen.mem_uc Cert.KernelIdeal.main_arg7 (by decide))).trans (Cert.KernelIdeal.Gen.W4_main_arg7 m g c)⟩
  · refine (θ_run Cert.ReferenceIdeal.defs _ _).mono (fun r h c => ?_) (Cert.ReferenceIdeal.Value.run (F := Ideal) m' g')
    obtain ⟨h0, h1, h2, h3, h4, h5, hrest⟩ := h c
    obtain ⟨a0, a1, a2, a3, a4, a5, a6, a7⟩ := hargs c
    obtain ⟨f0, f2, f4, f5⟩ := Cert.FiniteChain.finite _ _ _ _ _ _ _ _ (hpre c)
    refine ⟨h0.trans ?_, h1.trans ?_, h2.trans ?_, h3.trans ?_, h4.trans ?_, h5.trans ?_, hrest⟩
    · rw [a0, a2, a4]
      exact (Cert.ReferenceIdeal.Read.val_main_v2_eq _ _ _).trans (Cert.ReferenceIdeal.Results.v2_eq _ _ _)
    · rw [a0, a2, a4, a5]
      refine (Cert.ReferenceIdeal.Read.val_main_v4_eq _ _ _ _).trans ((Cert.ReferenceIdeal.Results.v4_eq _ _ _ _).trans ?_)
      exact (mul_assoc_of_finite f2 (f2.mul (f0.mul f4)) f5).symm
    · rw [a0, a1, a2, a4, a6, a7]
      exact (Cert.ReferenceIdeal.Read.val_main_v20_eq _ _ _ _ _ _).trans (Cert.ReferenceIdeal.Results.v20_eq _ _ _ _ _ _)
    · rw [a1, a2, a3, a4, a6, a7]
      exact (Cert.ReferenceIdeal.Read.val_main_v25_eq _ _ _ _ _ _).trans (Cert.ReferenceIdeal.Results.v25_eq _ _ _ _ _ _)
    · rw [a0, a4, a5]
      exact (Cert.ReferenceIdeal.Read.val_main_v7_eq _ _ _).trans (Cert.ReferenceIdeal.Results.v7_eq _ _ _)
    · rw [a0, a4, a5]
      exact (Cert.ReferenceIdeal.Read.val_main_v9_eq _ _ _).trans (Cert.ReferenceIdeal.Results.v9_eq _ _ _)

/-- All the claims of the statement: the frames, the preservation and the equality of the six results. -/
theorem claim : Cert.Claim := ⟨Cert.Kernel.Gen.facts, Cert.KernelIdeal.Gen.facts, Cert.ReferenceIdeal.Gen.facts, Cert.FiniteChain.facts,
  fun m g _ => Cert.Kernel.Gen.frame m g, fun m g _ => Cert.KernelIdeal.Gen.frame m g, fun m g _ => Cert.KernelIdeal.Gen.frame m g,
  fun m g _ => reference_frame m g, fun m g _ => reference_frame m g, trivial, same_results Cert.FiniteChain.facts⟩

end Cert.Proof

end
